-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1024x2560 : Shape := ⟨3, ![3, 1024, 2560]⟩
abbrev S2560x5120 : Shape := ⟨2, ![2560, 5120]⟩
abbrev S5120 : Shape := ⟨1, ![5120]⟩
abbrev S3x1024x5120 : Shape := ⟨3, ![3, 1024, 5120]⟩
abbrev S1x5120 : Shape := ⟨2, ![1, 5120]⟩
abbrev S384x8x5120 : Shape := ⟨3, ![384, 8, 5120]⟩
abbrev S1x3072 : Shape := ⟨2, ![1, 3072]⟩
abbrev S1x1024x2560 : Shape := ⟨3, ![1, 1024, 2560]⟩
abbrev S2560x1024 : Shape := ⟨2, ![2560, 1024]⟩
abbrev S1x1024 : Shape := ⟨2, ![1, 1024]⟩
abbrev S1x1024x1024 : Shape := ⟨3, ![1, 1024, 1024]⟩
abbrev S128x8x1024 : Shape := ⟨3, ![128, 8, 1024]⟩
abbrev S3x1024x1 : Shape := ⟨3, ![3, 1024, 1]⟩
abbrev S1024x2560 : Shape := ⟨2, ![1024, 2560]⟩
abbrev S1024 : Shape := ⟨1, ![1024]⟩
abbrev S1024x1 : Shape := ⟨2, ![1024, 1]⟩
abbrev S1x1024x1 : Shape := ⟨3, ![1, 1024, 1]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S3x1024x2560, .bf16⟩
  | .hbm, ⟨1, _⟩ => ⟨S2560x5120, .fp8e4m3⟩
  | .hbm, ⟨2, _⟩ => ⟨S5120, .f32⟩
  | .hbm, ⟨3, _⟩ => ⟨S3x1024x5120, .bf16⟩
  | .hbm, ⟨4, _⟩ => ⟨S1x5120, .f32⟩
  | .hbm, ⟨5, _⟩ => ⟨S384x8x5120, .bf16⟩
  | .hbm, ⟨6, _⟩ => ⟨S3x1024x2560, .fp8e4m3⟩
  | .hbm, ⟨7, _⟩ => ⟨S1x3072, .f32⟩
  | .local _ .vmem, ⟨0, _⟩ => ⟨S1x1024x2560, .bf16⟩
  | .local _ .vmem, ⟨1, _⟩ => ⟨S1x1024x2560, .bf16⟩
  | .local _ .vmem, ⟨2, _⟩ => ⟨S2560x1024, .fp8e4m3⟩
  | .local _ .vmem, ⟨3, _⟩ => ⟨S2560x1024, .fp8e4m3⟩
  | .local _ .vmem, ⟨4, _⟩ => ⟨S1x1024, .f32⟩
  | .local _ .vmem, ⟨5, _⟩ => ⟨S1x1024, .f32⟩
  | .local _ .vmem, ⟨6, _⟩ => ⟨S1x1024x1024, .bf16⟩
  | .local _ .vmem, ⟨7, _⟩ => ⟨S1x1024x1024, .bf16⟩
  | .local _ .vmem, ⟨8, _⟩ => ⟨S128x8x1024, .bf16⟩
  | .local _ .vmem, ⟨9, _⟩ => ⟨S128x8x1024, .bf16⟩
  | .local _ .vmem, ⟨10, _⟩ => ⟨S1x1024x2560, .fp8e4m3⟩
  | .local _ .vmem, ⟨11, _⟩ => ⟨S1x1024x2560, .fp8e4m3⟩
  | .local _ .vmem, ⟨12, _⟩ => ⟨S1x1024, .f32⟩
  | .local _ .vmem, ⟨13, _⟩ => ⟨S1x1024, .f32⟩
  | .local _ .vmem, ⟨14, _⟩ => ⟨S3x1024x2560, .fp8e4m3⟩
  | .local _ .vmem, ⟨15, _⟩ => ⟨S3x1024x1, .f32⟩
  | _, _ => ⟨S3x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![5, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v134 : Index := Scalar.indexCast arg1
  let c0_46 : Index := 0#32
  let c0_47 : Index := 0#32
  ![v134.toNat, 0, 0]
def k0_off2 (i : grid0.Coords) : Fin 3 → Nat :=
  let arg1 : BitVec 32 := BitVec.ofNat 32 (i 1).val
  let v138 : Index := Scalar.indexCast arg1
  let c0_48 : Index := 0#32
  let c0_49 : Index := 0#32
  ![v138.toNat, 0, 0]
def k0_off3 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off4 (i : grid0.Coords) : Fin 3 → Nat :=
  let arg1 : BitVec 32 := BitVec.ofNat 32 (i 1).val
  let v8 : Index := Scalar.indexCast arg1
  let c0_4 : Index := 0#32
  let c0_5 : Index := 0#32
  ![v8.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c2_i32 : BitVec 32 := 2#32
  let v1 : BitVec 32 := Scalar.select v0 arg1 c2_i32
  let c0_i32_0 : BitVec 32 := 0#32
  let c0_i32_1 : BitVec 32 := 0#32
  ![c0_i32_0.toNat, v1.toNat]

abbrev stage0_0 : Fin 2 → Memref sig .tc .vmem S1x1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2560 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S3x1024x2560 : Shape := ⟨3, ![3, 1024, 2560]⟩
abbrev S2560x5120 : Shape := ⟨2, ![2560, 5120]⟩
abbrev S5120 : Shape := ⟨1, ![5120]⟩
abbrev S3x1024x5120 : Shape := ⟨3, ![3, 1024, 5120]⟩
abbrev S1x5120 : Shape := ⟨2, ![1, 5120]⟩
abbrev S384x8x5120 : Shape := ⟨3, ![384, 8, 5120]⟩
abbrev S1x3072 : Shape := ⟨2, ![1, 3072]⟩
abbrev S3x1024 : Shape := ⟨2, ![3, 1024]⟩
abbrev S3x1024x1 : Shape := ⟨3, ![3, 1024, 1]⟩
abbrev S1x1x5120 : Shape := ⟨3, ![1, 1, 5120]⟩

abbrev nBuf : Space → Nat
  | .hbm => 8
  | .vmem => 7
  | .smem => 0
  | _ => 0

abbrev bufTy : (tb : Table) → Fin (tcTables nBuf tb) → BufTy
  | .hbm, ⟨0, _⟩ => ⟨S3x1024x2560, .bf16⟩
  | .hbm, ⟨1, _⟩ => ⟨S2560x5120, .fp8e4m3⟩
  | .hbm, ⟨2, _⟩ => ⟨S5120, .f32⟩
  | .hbm, ⟨3, _⟩ => ⟨S3x1024x5120, .bf16⟩
  | .hbm, ⟨4, _⟩ => ⟨S1x5120, .f32⟩
  | .hbm, ⟨5, _⟩ => ⟨S384x8x5120, .bf16⟩
  | .hbm, ⟨6, _⟩ => ⟨S3x1024x2560, .fp8e4m3⟩
  | .hbm, ⟨7, _⟩ => ⟨S1x3072, .f32⟩
  | .local _ .vmem, ⟨0, _⟩ => ⟨S3x1024x2560, .bf16⟩
  | .local _ .vmem, ⟨1, _⟩ => ⟨S2560x5120, .fp8e4m3⟩
  | .local _ .vmem, ⟨2, _⟩ => ⟨S1x5120, .f32⟩
  | .local _ .vmem, ⟨3, _⟩ => ⟨S3x1024x5120, .bf16⟩
  | .local _ .vmem, ⟨4, _⟩ => ⟨S384x8x5120, .bf16⟩
  | .local _ .vmem, ⟨5, _⟩ => ⟨S3x1024x2560, .fp8e4m3⟩
  | .local _ .vmem, ⟨6, _⟩ => ⟨S1x3072, .f32⟩
  | _, _ => ⟨S3x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x1024x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x8x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1024x2560 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.lean ====
/-
  Hand-written. The body of the kernel at one grid point, run once for each of its two cases, every buffer named by
  value: at the points of the first sweep (`pl.when` taken) it quantises its batch into the two scratch buffers and into
  the two result blocks; at every point it multiplies the scratch's codes with the weight block.
-/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one batch's rows become -/

/-- The codes of one batch's rows, as a block of the codes. -/
def codesB (x : Vec F S1x1024x2560 .bf16) : FVec F S1x1024x2560 .fp8e4m3 :=
  k0_pay2 (k0_pay7 x) (k0_pay11 (k0_pay8 x) (k0_pay9 x) (k0_pay10 x)) 0#32
/-- The scales of one batch's rows, a column. -/
def scaleB (x : Vec F S1x1024x2560 .bf16) : FVec F S1024x1 .f32 :=
  k0_pay12 (k0_pay8 x) (k0_pay9 x) (k0_pay10 x)
/-- The scales as a row of the result. -/
def scaleRow (x : Vec F S1x1024x2560 .bf16) : FVec F S1x1024 .f32 := k0_pay3 (scaleB x)
/-- The scales as a slab of the scratch. -/
def scaleSlab (x : Vec F S1x1024x2560 .bf16) : FVec F S1x1024x1 .f32 := k0_pay5 (scaleB x)

/-- The slot `b` of the codes' scratch. -/
abbrev slot9 (d : Vec F S3x1024x2560 .fp8e4m3) (b : ℕ) (h : ∀ a, (![b, 0, 0] : Fin 3 → ℕ) a + S1x1024x2560.size a ≤ S3x1024x2560.size a) :
    Vec F S1x1024x2560 .fp8e4m3 := VecWindow.window d ![b, 0, 0] S1x1024x2560.size h
/-- The slot `b` of the scales' scratch. -/
abbrev slot10 (d : Vec F S3x1024x1 .f32) (b : ℕ) (h : ∀ a, (![b, 0, 0] : Fin 3 → ℕ) a + S1x1024x1.size a ≤ S3x1024x1.size a) :
    Vec F S1x1024x1 .f32 := VecWindow.window d ![b, 0, 0] S1x1024x1.size h

theorem slot9_inb (i : grid0.Coords) : ∀ a, (![(i 1).val, 0, 0] : Fin 3 → ℕ) a + S1x1024x2560.size a ≤ S3x1024x2560.size a := by
  rw [← k0_off3_eq]; exact k0_off3_inb i
theorem slot10_inb (i : grid0.Coords) : ∀ a, (![(i 1).val, 0, 0] : Fin 3 → ℕ) a + S1x1024x1.size a ≤ S3x1024x1.size a := by
  rw [← k0_off4_eq]; exact k0_off4_inb i

set_option maxHeartbeats 1000000 in
/-- The body where `pl.when` is taken (the first sweep): the batch is quantised, the codes and the scales stored in the results' blocks and in the scratch's slot, and the product taken of them. -/
theorem run_A (c : Dev nD) (i : grid0.Coords) (arg2 : Memref sig .tc .vmem S1x1024x2560 .bf16) (harg2 : arg2.IsWhole) (arg3 : Memref sig .tc .vmem S2560x1024 .fp8e4m3) (harg3 : arg3.IsWhole) (arg4 : Memref sig .tc .vmem S1x1024 .f32) (harg4 : arg4.IsWhole) (arg5 : Memref sig .tc .vmem S1x1024x1024 .bf16) (harg5 : arg5.IsWhole) (arg6 : Memref sig .tc .vmem S128x8x1024 .bf16) (harg6 : arg6.IsWhole) (arg7 : Memref sig .tc .vmem S1x1024x2560 .fp8e4m3) (harg7 : arg7.IsWhole) (arg8 : Memref sig .tc .vmem S1x1024 .f32) (harg8 : arg8.IsWhole) (arg9 : Memref sig .tc .vmem S3x1024x2560 .fp8e4m3) (harg9 : arg9.IsWhole) (arg10 : Memref sig .tc .vmem S3x1024x1 .f32) (harg10 : arg10.IsWhole) (hc0 : k0_cond1 i = 1#1)
    (x0 : Vec F S1x1024x2560 .bf16) (x1 : Vec F S2560x1024 .fp8e4m3) (x2 : Vec F S1x1024 .f32) (x3 : Vec F S1x1024x1024 .bf16) (d9 : Vec F S3x1024x2560 .fp8e4m3) (d10 : Vec F S3x1024x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare d9 ∗ owns (c : Thread nD τ) arg10 fullShare d10
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay6 (codesB x0) x1 (scaleSlab x0) x2 x3)
                ∗ owns (c : Thread nD τ) arg7 fullShare (codesB x0) ∗ owns (c : Thread nD τ) arg8 fullShare (scaleRow x0)
                ∗ owns (c : Thread nD τ) arg9 fullShare (VecWindow.put d9 ![(i 1).val, 0, 0] S1x1024x2560.size (codesB x0)) ∗ owns (c : Thread nD τ) arg10 fullShare (VecWindow.put d10 ![(i 1).val, 0, 0] S1x1024x1.size (scaleSlab x0))) -∗ K ⟨⟩))
          ⊢ wp frame (wpE (defs₀ (F := F)) Variants.none c none) E (cc0_attn_out_proj_fp8 i arg2 harg2 arg3 harg3 arg4 harg4 arg5 harg5 arg6 harg6 arg7 harg7 arg8 harg8 arg9 harg9 arg10 harg10) K := by
    intro E K
    simp only [cc0_attn_out_proj_fp8_eq_skeleton]; unfold cc0_attn_out_proj_fp8_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3
    obtain rfl := harg9.eq_unread hs0; obtain rfl := harg10.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    have e0 : View.readAt (Elt F) arg2.view (Rect.unit ![0, 0, 0] S1x1024x2560.size inb_S1x1024x2560_S1x1024x2560_0_0_0).toLoadRect (harg2.unread x0) = x0 :=
      (View.readAt_full _ _ _).trans hf0
    have e1 : View.readAt (Elt F) arg3.view (Rect.unit ![0, 0] ![2560, 1024] inb_S2560x1024_S2560x1024_0_0).toLoadRect (harg3.unread x1) = x1 :=
      (View.readAt_full _ _ inb_S2560x1024_S2560x1024_0_0).trans hf1
    have e2 : View.readAt (Elt F) arg4.view (Rect.unit ![0, 0] ![1, 1024] inb_S1x1024_S1x1024_0_0).toLoadRect (harg4.unread x2) = x2 :=
      (View.readAt_full _ _ inb_S1x1024_S1x1024_0_0).trans hf2
    have e3 : View.readAt (Elt F) arg5.view (Rect.unit ![0, 0, 0] ![1, 1024, 1024] inb_S1x1024x1024_S1x1024x1024_0_0_0).toLoadRect (harg5.unread x3) = x3 :=
      (View.readAt_full _ _ inb_S1x1024x1024_S1x1024x1024_0_0_0).trans hf3
    have r : run_A.sl.r c arg2 harg2 x0 = k0_pay7 x0 := by unfold run_A.sl.r; rw [e0]
    have r1 : run_A.sl.r_1 c arg2 harg2 x0 = k0_pay8 x0 := by unfold run_A.sl.r_1; rw [e0]
    have r2 : run_A.sl.r_2 c arg2 harg2 x0 = k0_pay9 x0 := by unfold run_A.sl.r_2; rw [e0]
    have r3 : run_A.sl.r_3 c arg2 harg2 x0 = k0_pay10 x0 := by unfold run_A.sl.r_3; rw [e0]
    have r4 : run_A.sl.r_4 c arg2 harg2 x0 = k0_pay11 (k0_pay8 x0) (k0_pay9 x0) (k0_pay10 x0) := by
      unfold run_A.sl.r_4; rw [r1, r2, r3]
    have r5 : run_A.sl.r_5 c arg2 harg2 x0 = scaleB x0 := by
      unfold run_A.sl.r_5; rw [r1, r2, r3]; rfl
    have v4 : run_A.sl.v4 c i arg2 harg2 arg9 hc0 x0 = codesB x0 := by
      unfold run_A.sl.v4 run_A.sl.HS0_1 View.readCov
      rw [View.readAt_unit _ _ _ (k0_off3_eq i) (slot9_inb i), View.read_writes_cons_put _ _ _ _ _ (k0_off1_eq i)]
      refine (VecWindow.window_put_same _ _ _ _ _).trans ?_
      rw [r, r4]; rfl
    have v9 : run_A.sl.v9 c i arg2 harg2 arg10 hc0 x0 = scaleSlab x0 := by
      unfold run_A.sl.v9 run_A.sl.HS1_1 View.readCov
      rw [View.readAt_unit _ _ _ (k0_off4_eq i) (slot10_inb i), View.read_writes_cons_put _ _ _ _ _ (k0_off2_eq i)]
      refine (VecWindow.window_put_same _ _ _ _ _).trans ?_
      rw [r5]; rfl
    isplitl [H4]
    · iexists _; isplitr; swap; · iexact H4
      ipureintro
      refine (View.read_writes_full _ _ inb_S128x8x1024_S128x8x1024_0_0_0 _ _).trans ?_
      rw [v4, v9, e1, e2, e3]
    isplitl [H5]
    · iexists _; isplitr; swap; · iexact H5
      ipureintro
      refine (View.read_writes_full _ _ inb_S1x1024x2560_S1x1024x2560_0_0_0 _ _).trans ?_
      rw [r, r4]; rfl
    isplitl [H6]
    · iexists _; isplitr; swap; · iexact H6
      ipureintro
      refine (View.read_writes_full _ _ inb_S1x1024_S1x1024_0_0 _ _).trans ?_
      rw [r5]; rfl
    isplitl [HS0]
    · iexists _; isplitr; swap; · iexact HS0
      ipureintro
      unfold run_A.sl.HS0_1
      rw [View.read_writes_cons_put _ _ _ _ _ (k0_off1_eq i), View.writes_nil, hs0]
      rw [r, r4]; rfl
    iexists _; isplitr; swap; · iexact HS1
    ipureintro
    unfold run_A.sl.HS1_1
    rw [View.read_writes_cons_put _ _ _ _ _ (k0_off2_eq i), View.writes_nil, hs1]
    rw [r5]; rfl

set_option maxHeartbeats 1000000 in
/-- The body where `pl.when` is not taken (the later sweeps): the product of the codes in the scratch's slot; every other buffer is left as it was. -/
theorem run_B (c : Dev nD) (i : grid0.Coords) (arg2 : Memref sig .tc .vmem S1x1024x2560 .bf16) (harg2 : arg2.IsWhole) (arg3 : Memref sig .tc .vmem S2560x1024 .fp8e4m3) (harg3 : arg3.IsWhole) (arg4 : Memref sig .tc .vmem S1x1024 .f32) (harg4 : arg4.IsWhole) (arg5 : Memref sig .tc .vmem S1x1024x1024 .bf16) (harg5 : arg5.IsWhole) (arg6 : Memref sig .tc .vmem S128x8x1024 .bf16) (harg6 : arg6.IsWhole) (arg7 : Memref sig .tc .vmem S1x1024x2560 .fp8e4m3) (harg7 : arg7.IsWhole) (arg8 : Memref sig .tc .vmem S1x1024 .f32) (harg8 : arg8.IsWhole) (arg9 : Memref sig .tc .vmem S3x1024x2560 .fp8e4m3) (harg9 : arg9.IsWhole) (arg10 : Memref sig .tc .vmem S3x1024x1 .f32) (harg10 : arg10.IsWhole) (hc0 : ¬ k0_cond1 i = 1#1)
    (x0 : Vec F S1x1024x2560 .bf16) (x1 : Vec F S2560x1024 .fp8e4m3) (x2 : Vec F S1x1024 .f32) (x3 : Vec F S1x1024x1024 .bf16) (d9 : Vec F S3x1024x2560 .fp8e4m3) (d10 : Vec F S3x1024x1 .f32) (d7 : Vec F S1x1024x2560 .fp8e4m3) (d8 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d7 ∗ owns (c : Thread nD τ) arg8 fullShare d8 ∗ owns (c : Thread nD τ) arg9 fullShare d9 ∗ owns (c : Thread nD τ) arg10 fullShare d10
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (k0_pay6 (slot9 d9 (i 1).val (slot9_inb i)) x1 (slot10 d10 (i 1).val (slot10_inb i)) x2 x3)
                ∗ owns (c : Thread nD τ) arg7 fullShare d7 ∗ owns (c : Thread nD τ) arg8 fullShare d8
                ∗ owns (c : Thread nD τ) arg9 fullShare d9 ∗ owns (c : Thread nD τ) arg10 fullShare d10) -∗ K ⟨⟩))
          ⊢ wp frame (wpE (defs₀ (F := F)) Variants.none c none) E (cc0_attn_out_proj_fp8 i arg2 harg2 arg3 harg3 arg4 harg4 arg5 harg5 arg6 harg6 arg7 harg7 arg8 harg8 arg9 harg9 arg10 harg10) K := by
    intro E K
    simp only [cc0_attn_out_proj_fp8_eq_skeleton]; unfold cc0_attn_out_proj_fp8_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3
    obtain rfl := harg9.eq_unread hs0; obtain rfl := harg10.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    have e0 : View.readAt (Elt F) arg2.view (Rect.unit ![0, 0, 0] S1x1024x2560.size inb_S1x1024x2560_S1x1024x2560_0_0_0).toLoadRect (harg2.unread x0) = x0 :=
      (View.readAt_full _ _ _).trans hf0
    have e1 : View.readAt (Elt F) arg3.view (Rect.unit ![0, 0] ![2560, 1024] inb_S2560x1024_S2560x1024_0_0).toLoadRect (harg3.unread x1) = x1 :=
      (View.readAt_full _ _ inb_S2560x1024_S2560x1024_0_0).trans hf1
    have e2 : View.readAt (Elt F) arg4.view (Rect.unit ![0, 0] ![1, 1024] inb_S1x1024_S1x1024_0_0).toLoadRect (harg4.unread x2) = x2 :=
      (View.readAt_full _ _ inb_S1x1024_S1x1024_0_0).trans hf2
    have e3 : View.readAt (Elt F) arg5.view (Rect.unit ![0, 0, 0] ![1, 1024, 1024] inb_S1x1024x1024_S1x1024x1024_0_0_0).toLoadRect (harg5.unread x3) = x3 :=
      (View.readAt_full _ _ inb_S1x1024x1024_S1x1024x1024_0_0_0).trans hf3
    isplitl [H4]
    · iexists _; isplitr; swap; · iexact H4
      ipureintro
      refine (View.read_writes_full _ _ inb_S128x8x1024_S128x8x1024_0_0_0 _ _).trans ?_
      rw [e1, e2, e3, View.readAt_unit _ _ _ (k0_off3_eq i) (slot9_inb i), View.readAt_unit _ _ _ (k0_off4_eq i) (slot10_inb i), hs0, hs1]
    isplitl [H5]
    · iexists _; isplitr; swap; · iexact H5
      ipureintro; exact hf5
    isplitl [H6]
    · iexists _; isplitr; swap; · iexact H6
      ipureintro; exact hf6
    isplitl [HS0]
    · iexists _; isplitr; swap; · iexact HS0
      ipureintro; exact hs0
    iexists _; isplitr; swap; · iexact HS1
    ipureintro; exact hs1

end Cert.KernelIdeal.Hand

end
-- ==== Proof.Data.lean ====
/-
  Hand-written. The pipeline's proof data and its run. The two scratch buffers are tracked by the invariant: before
  point `t` their slots below `t` hold the codes and the scales of those batches. The results' blocks of the codes and
  the scales stay in their staging buffers through the later sweeps, where the body stores nothing into them.
-/
module

public import proofs.«01_k».proof.Proof.Run
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N15 : cfg0.N = 15 := N_0

theorem coord1 (t : Fin cfg0.N) : (grid0.coords t 1).val = t.val % 3 := by
  have e1 : (grid0.coords t 1).val = t.val / 1 % 3 := Pipeline.Grid.coords_val t 1 (by decide) rfl
  rw [e1, Nat.div_one]

/-- `pl.when` is taken at the points before point 3. -/
theorem hcond : ∀ t : Fin cfg0.N, k0_cond1 (grid0.coords t) = 1#1 ↔ t.val < 3 :=
  (fun t => by
    have ht : t.val < 15 := Nat.lt_of_lt_of_eq t.isLt N_0
    have e0 : (grid0.coords t 0).val = t.val / 3 % 5 := Pipeline.Grid.coords_val t 0 (by decide) rfl
    have e1 : (grid0.coords t 1).val = t.val / 1 % 3 := Pipeline.Grid.coords_val t 1 (by decide) rfl
    simp only [k0_cond1, e0, e1]
    word_cmp
   : ∀ t : Fin grid0.N, k0_cond1 (grid0.coords t) = 1#1 ↔ t.val < 3)

/-- The point of the first sweep at which batch `b` is quantised (batch 2's for every `b ≥ 2`). -/
def pt (b : ℕ) : Fin cfg0.N := ⟨min b 2, by rw [N15]; omega⟩
theorem pt_of_lt (t : Fin cfg0.N) (h : t.val < 3) : pt t.val = t := Fin.ext (by show min t.val 2 = t.val; omega)
theorem pt_of_ge (b : ℕ) (h : 2 ≤ b) : pt b = pt 2 := Fin.ext (by show min b 2 = min 2 2; omega)
theorem pt_mod (t : Fin cfg0.N) (h : t.val < 3) : pt (t.val % 3) = t := by rw [Nat.mod_eq_of_lt h]; exact pt_of_lt t h

theorem slot9_inb' (b : ℕ) (h : b < 3) : ∀ a, (![b, 0, 0] : Fin 3 → ℕ) a + S1x1024x2560.size a ≤ S3x1024x2560.size a := by
  intro a; match a with
  | 0 => show b + 1 ≤ 3; omega
  | 1 => show 0 + 1024 ≤ 1024; omega
  | 2 => show 0 + 2560 ≤ 2560; omega
theorem slot10_inb' (b : ℕ) (h : b < 3) : ∀ a, (![b, 0, 0] : Fin 3 → ℕ) a + S1x1024x1.size a ≤ S3x1024x1.size a := by
  intro a; match a with
  | 0 => show b + 1 ≤ 3; omega
  | 1 => show 0 + 1024 ≤ 1024; omega
  | 2 => show 0 + 1 ≤ 1; omega

/-! ## What the buffers hold -/

/-- The activations of batch `b`. -/
abbrev xB (c : Dev nD) (b : ℕ) : Vec F S1x1024x2560 .bf16 := iblk m c 0 (pt b)
/-- The result block point `t` computes. -/
def yB (c : Dev nD) (t : Fin cfg0.N) : FVec F S128x8x1024 .bf16 :=
  k0_pay6 (codesB (xB m c (t.val % 3))) (iblk m c 1 t) (scaleSlab (xB m c (t.val % 3))) (iblk m c 2 t) (iblk m c 3 t)

/-- The codes' scratch holds the codes of the batches below `n`. -/
def Held9 (c : Dev nD) (n : ℕ) (d : Vec F S3x1024x2560 .fp8e4m3) : Prop :=
  ∀ b (h : b < 3), b < n → slot9 d b (slot9_inb' b h) = codesB (xB m c b)
/-- The scales' scratch holds the scales of the batches below `n`. -/
def Held10 (c : Dev nD) (n : ℕ) (d : Vec F S3x1024x1 .f32) : Prop :=
  ∀ b (h : b < 3), b < n → slot10 d b (slot10_inb' b h) = scaleSlab (xB m c b)

theorem Held9.step {c : Dev nD} {n : ℕ} (hn : n < 3) {d : Vec F S3x1024x2560 .fp8e4m3} (h : Held9 m c n d) :
    Held9 m c (n + 1) (VecWindow.put d ![n, 0, 0] S1x1024x2560.size (codesB (xB m c n))) := by
  intro b hb hbn
  rcases Nat.lt_succ_iff_lt_or_eq.mp hbn with hlt | rfl
  · refine (VecWindow.window_put_of_disjoint d ![n, 0, 0] S1x1024x2560.size ![b, 0, 0] S1x1024x2560.size (slot9_inb' b hb) _ 0 (Or.inl ?_)).trans (h b hb hlt)
    show b + 1 ≤ n; omega
  · exact VecWindow.window_put_same _ _ _ _ _
theorem Held10.step {c : Dev nD} {n : ℕ} (hn : n < 3) {d : Vec F S3x1024x1 .f32} (h : Held10 m c n d) :
    Held10 m c (n + 1) (VecWindow.put d ![n, 0, 0] S1x1024x1.size (scaleSlab (xB m c n))) := by
  intro b hb hbn
  rcases Nat.lt_succ_iff_lt_or_eq.mp hbn with hlt | rfl
  · refine (VecWindow.window_put_of_disjoint d ![n, 0, 0] S1x1024x1.size ![b, 0, 0] S1x1024x1.size (slot10_inb' b hb) _ 0 (Or.inl ?_)).trans (h b hb hlt)
    show b + 1 ≤ n; omega
  · exact VecWindow.window_put_same _ _ _ _ _
theorem Held9.full {c : Dev nD} {n : ℕ} (hn : 3 ≤ n) {d : Vec F S3x1024x2560 .fp8e4m3} (h : Held9 m c n d) (n' : ℕ) : Held9 m c n' d :=
  fun b hb _ => h b hb (by omega)
theorem Held10.full {c : Dev nD} {n : ℕ} (hn : 3 ≤ n) {d : Vec F S3x1024x1 .f32} (h : Held10 m c n d) (n' : ℕ) : Held10 m c n' d :=
  fun b hb _ => h b hb (by omega)

/-! ## The proof data -/

/-- The scratch operands: whole scoped buffers of the kernel's own. -/
abbrev scM0 : Memref sig .tc .vmem S3x1024x2560 .fp8e4m3 := Memref.whole cc0_scratch0
abbrev scM1 : Memref sig .tc .vmem S3x1024x1 .f32 := Memref.whole cc0_scratch1

/-- The class invariant, the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The invariant before point `n`: the scratch buffers with the batches below `n` in their slots. -/
def PhiS (c : Dev nD) (n : ℕ) : sProp 𝕄 :=
  iprop(((∃ d, ⌜Held9 m c n d⌝ ∗ owns (c : Thread nD τ) scM0 fullShare d) ∗ (∃ d, ⌜Held10 m c n d⌝ ∗ owns (c : Thread nD τ) scM1 fullShare d)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yB m c t
    | ⟨5, _⟩ => codesB (xB m c t.val)
    | ⟨6, _⟩ => scaleRow (xB m c t.val)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = yB m c t := by dsimp only [dats]
theorem after_5 (c : Dev nD) (t : Fin cfg0.N) : (dats m 0 c).after 5 t = codesB (xB m c t.val) := by dsimp only [dats]
theorem after_6 (c : Dev nD) (t : Fin cfg0.N) : (dats m 0 c).after 6 t = scaleRow (xB m c t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-! ## The windows the body leaves alone after the first sweep -/

theorem idle5 : ∀ t : Fin cfg0.N, cfg0.idle 5 (grid0.coords t) = decide (3 ≤ t.val) :=
  (by decide +kernel : ∀ t : Fin grid0.N, idle0 5 (grid0.coords t) = decide (3 ≤ t.val))
theorem idle6 : ∀ t : Fin cfg0.N, cfg0.idle 6 (grid0.coords t) = decide (3 ≤ t.val) :=
  (by decide +kernel : ∀ t : Fin grid0.N, idle0 6 (grid0.coords t) = decide (3 ≤ t.val))
theorem flush5 : ∀ t : Fin cfg0.N, (cfg0.win 5).flush t = (decide (t.val < 2) || decide (t.val = 14)) := by
  intro t; rw [Pipeline.Window.flush_eq_flushF]; revert t
  exact (by decide +kernel : ∀ t : Fin grid0.N, win0_5.flushF t = (decide (t.val < 2) || decide (t.val = 14)))
theorem flush6 : ∀ t : Fin cfg0.N, (cfg0.win 6).flush t = (decide (t.val < 2) || decide (t.val = 14)) := by
  intro t; rw [Pipeline.Window.flush_eq_flushF]; revert t
  exact (by decide +kernel : ∀ t : Fin grid0.N, win0_6.flushF t = (decide (t.val < 2) || decide (t.val = 14)))

theorem fresh5 (n : ℕ) (h : n ≤ cfg0.N) : cfg0.fresh 5 n = decide (n < 3 ∨ n = 15) :=
  cfg0.fresh_tab 5 (fun n => decide (n < 3 ∨ n = 15)) (by decide)
    (fun t => by
      rw [flush5, idle5]
      exact (by decide +kernel : ∀ t : Fin grid0.N, decide (t.val + 1 < 3 ∨ t.val + 1 = 15) = ((decide (t.val < 2) || decide (t.val = 14)) || (decide (3 ≤ t.val) && decide (t.val < 3 ∨ t.val = 15)))) t) n h
theorem fresh6 (n : ℕ) (h : n ≤ cfg0.N) : cfg0.fresh 6 n = decide (n < 3 ∨ n = 15) :=
  cfg0.fresh_tab 6 (fun n => decide (n < 3 ∨ n = 15)) (by decide)
    (fun t => by
      rw [flush6, idle6]
      exact (by decide +kernel : ∀ t : Fin grid0.N, decide (t.val + 1 < 3 ∨ t.val + 1 = 15) = ((decide (t.val < 2) || decide (t.val = 14)) || (decide (3 ≤ t.val) && decide (t.val < 3 ∨ t.val = 15)))) t) n h

theorem xB_carry (c : Dev nD) (t : ℕ) (h : 3 ≤ t) : xB m c t = xB m c (t - 1) := by
  show iblk m c 0 (pt t) = iblk m c 0 (pt (t - 1))
  rw [pt_of_ge t (by omega), pt_of_ge (t - 1) (by omega)]

/-- From the fourth point on, the codes' staging buffer holds batch 2's codes: what the body left there at point 2. -/
theorem before_5 (c : Dev nD) (t : Fin cfg0.N) (h : 3 ≤ t.val) (d) : (dats m 0 c).before 5 t d = codesB (xB m c t.val) := by
  have ht : t.val < 15 := lt_of_lt_of_eq t.isLt N15
  have key := (dats m 0 c).before_out_traj 5 rfl (fun _ _ => rfl)
    (fun t _ hi _ => by
      rw [idle5] at hi
      rw [after_5, after_5, xB_carry m c t.val (of_decide_eq_true hi)]) t.val t rfl d
  rw [key, fresh5 _ (Nat.le_of_lt t.isLt), if_neg (by simp only [decide_eq_true_eq]; omega), after_5, ← xB_carry m c t.val h]
theorem before_6 (c : Dev nD) (t : Fin cfg0.N) (h : 3 ≤ t.val) (d) : (dats m 0 c).before 6 t d = scaleRow (xB m c t.val) := by
  have ht : t.val < 15 := lt_of_lt_of_eq t.isLt N15
  have key := (dats m 0 c).before_out_traj 6 rfl (fun _ _ => rfl)
    (fun t _ hi _ => by
      rw [idle6] at hi
      rw [after_6, after_6, xB_carry m c t.val (of_decide_eq_true hi)]) t.val t rfl d
  rw [key, fresh6 _ (Nat.le_of_lt t.isLt), if_neg (by simp only [decide_eq_true_eq]; omega), after_6, ← xB_carry m c t.val h]

/-! ## The body obligation -/

abbrev ms_0 (t : Fin cfg0.N) : Memref sig .tc .vmem S1x1024x2560 .bf16 := win0_0.stage (cfg0.slots t 0)
abbrev ms_1 (t : Fin cfg0.N) : Memref sig .tc .vmem S2560x1024 .fp8e4m3 := win0_1.stage (cfg0.slots t 1)
abbrev ms_2 (t : Fin cfg0.N) : Memref sig .tc .vmem S1x1024 .f32 := win0_2.stage (cfg0.slots t 2)
abbrev ms_3 (t : Fin cfg0.N) : Memref sig .tc .vmem S1x1024x1024 .bf16 := win0_3.stage (cfg0.slots t 3)
abbrev ms_4 (t : Fin cfg0.N) : Memref sig .tc .vmem S128x8x1024 .bf16 := win0_4.stage (cfg0.slots t 4)
abbrev ms_5 (t : Fin cfg0.N) : Memref sig .tc .vmem S1x1024x2560 .fp8e4m3 := win0_5.stage (cfg0.slots t 5)
abbrev ms_6 (t : Fin cfg0.N) : Memref sig .tc .vmem S1x1024 .f32 := win0_6.stage (cfg0.slots t 6)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_0 (c : Dev nD) (t : Fin cfg0.N) : (dats m 0 c).leavesExact 0 t = owns (c : Thread nD τ) (ms_0 t) fullShare (iblk m c 0 t) := by
  rw [← after_0 m c t]
theorem leaves_1 (c : Dev nD) (t : Fin cfg0.N) : (dats m 0 c).leavesExact 1 t = owns (c : Thread nD τ) (ms_1 t) fullShare (iblk m c 1 t) := by
  rw [← after_1 m c t]
theorem leaves_2 (c : Dev nD) (t : Fin cfg0.N) : (dats m 0 c).leavesExact 2 t = owns (c : Thread nD τ) (ms_2 t) fullShare (iblk m c 2 t) := by
  rw [← after_2 m c t]
theorem leaves_3 (c : Dev nD) (t : Fin cfg0.N) : (dats m 0 c).leavesExact 3 t = owns (c : Thread nD τ) (ms_3 t) fullShare (iblk m c 3 t) := by
  rw [← after_3 m c t]
theorem leaves_4 (c : Dev nD) (t : Fin cfg0.N) : (dats m 0 c).leavesExact 4 t = owns (c : Thread nD τ) (ms_4 t) fullShare (yB m c t) := by
  rw [← after_4 m c t]

/-- The codes' staging buffer after the body, at a point of any sweep. -/
theorem leaves_5 (c : Dev nD) (t : Fin cfg0.N) :
    owns (c : Thread nD τ) (ms_5 t) fullShare (codesB (xB m c t.val)) ⊢ (dats m 0 c).leavesExact 5 t := by
  unfold Dat.leavesExact
  by_cases h : 3 ≤ t.val
  · rw [idle5, decide_eq_true h]
    cases hf : (cfg0.win 5).flush t
    · dsimp only
      iintro H; iexists fun _ => Classical.arbitrary _
      rw [before_5 m c t h]; iexact H
    · dsimp only; rw [after_5]
  · rw [idle5, decide_eq_false h]; dsimp only; rw [after_5]
theorem leaves_6 (c : Dev nD) (t : Fin cfg0.N) :
    owns (c : Thread nD τ) (ms_6 t) fullShare (scaleRow (xB m c t.val)) ⊢ (dats m 0 c).leavesExact 6 t := by
  unfold Dat.leavesExact
  by_cases h : 3 ≤ t.val
  · rw [idle6, decide_eq_true h]
    cases hf : (cfg0.win 6).flush t
    · dsimp only
      iintro H; iexists fun _ => Classical.arbitrary _
      rw [before_6 m c t h]; iexact H
    · dsimp only; rw [after_6]
  · rw [idle6, decide_eq_false h]; dsimp only; rw [after_6]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, leaves_4]
  rw [show (dats m 0 c).Φ t.castSucc = PhiS m c t.val from rfl, show (dats m 0 c).Φ t.succ = PhiS m c (t.val + 1) from rfl,
    show (dats m 0 c).owesAt () t.succ = (dats m 0 c).owesAt () t.castSucc from rfl]
  unfold PhiS
  have hN : t.val < 15 := lt_of_lt_of_eq t.isLt N15
  by_cases h0 : t.val < 3
  · iintro ⟨⟨⟨⟨%d9, %h9, HS0⟩, ⟨%d10, %h10, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A c (grid0.coords t) _ _ _ _ _ _ _ _ _ _ _ _ _ _ _ _ _ _ ((hcond t).mpr h0) (iblk m c 0 t) (iblk m c 1 t) (iblk m c 2 t) (iblk m c 3 t) d9 d10) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    have e1 : (grid0.coords t 1).val = t.val := by rw [coord1, Nat.mod_eq_of_lt h0]
    have ex : iblk m c 0 t = xB m c t.val := by show _ = iblk m c 0 (pt t.val); rw [pt_of_lt t h0]
    rw [e1, ex]
    have ey : k0_pay6 (codesB (xB m c t.val)) (iblk m c 1 t) (scaleSlab (xB m c t.val)) (iblk m c 2 t) (iblk m c 3 t) = yB m c t := by
      unfold yB; rw [Nat.mod_eq_of_lt h0]
    rw [ey]
    iintro ⟨H0, H1, H2, H3, H4, H5, H6, HS0, HS1⟩
    isplitl [HS0 HS1 Hg]
    · isplitl [HS0 HS1]
      · isplitl [HS0]
        · iexists _; isplitr; swap; · iexact HS0
          ipureintro; exact h9.step m h0
        iexists _; isplitr; swap; · iexact HS1
        ipureintro; exact h10.step m h0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t); iexact H5
    iapply (leaves_6 m c t); iexact H6
  · have h3 : 3 ≤ t.val := by omega
    simp only [before_5 m c t h3, before_6 m c t h3]
    iintro ⟨⟨⟨⟨%d9, %h9, HS0⟩, ⟨%d10, %h10, HS1⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((run_B c (grid0.coords t) _ _ _ _ _ _ _ _ _ _ _ _ _ _ _ _ _ _ (fun h => h0 ((hcond t).mp h)) (iblk m c 0 t) (iblk m c 1 t) (iblk m c 2 t) (iblk m c 3 t) d9 d10 (codesB (xB m c t.val)) (scaleRow (xB m c t.val))) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    have hb : t.val % 3 < 3 := Nat.mod_lt _ (by omega)
    have e9 : slot9 d9 (grid0.coords t 1).val (slot9_inb (grid0.coords t)) = codesB (xB m c (t.val % 3)) := by
      rw [← h9 (t.val % 3) hb (by omega)]
      congr 1; rw [coord1]
    have e10 : slot10 d10 (grid0.coords t 1).val (slot10_inb (grid0.coords t)) = scaleSlab (xB m c (t.val % 3)) := by
      rw [← h10 (t.val % 3) hb (by omega)]
      congr 1; rw [coord1]
    rw [e9, e10, show k0_pay6 (codesB (xB m c (t.val % 3))) (iblk m c 1 t) (scaleSlab (xB m c (t.val % 3))) (iblk m c 2 t) (iblk m c 3 t) = yB m c t from rfl]
    iintro ⟨H0, H1, H2, H3, H4, H5, H6, HS0, HS1⟩
    isplitl [HS0 HS1 Hg]
    · isplitl [HS0 HS1]
      · isplitl [HS0]
        · iexists _; isplitr; swap; · iexact HS0
          ipureintro; exact h9.full m h3 _
        iexists _; isplitr; swap; · iexact HS1
        ipureintro; exact h10.full m h3 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_5 m c t); iexact H5
    iapply (leaves_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem Phi_in (c : Dev nD) : (Pipeline.ΦA spec0 c : sProp 𝕄) ⊢ PhiS m c 0 := by
  rw [PhiA_eq]; unfold PhiS
  iintro ⟨⟨⟨%d, H0⟩, ⟨%d', H1⟩⟩, Hg⟩
  isplitl [H0 H1]
  · isplitl [H0]
    · iexists d; isplitr; swap; · iexact H0
      ipureintro; exact fun _ _ h => absurd h (Nat.not_lt_zero _)
    iexists d'; isplitr; swap; · iexact H1
    ipureintro; exact fun _ _ h => absurd h (Nat.not_lt_zero _)
  iexact Hg
theorem Phi_out (c : Dev nD) (n : ℕ) : PhiS m c n ⊢ (Pipeline.ΦA spec0 c : sProp 𝕄) := by
  rw [PhiA_eq]; unfold PhiS
  iintro ⟨⟨⟨%d, %h, H0⟩, ⟨%d', %h', H1⟩⟩, Hg⟩
  isplitl [H0 H1]
  · isplitl [H0]
    · iexists d; iexact H0
    iexists d'; iexact H1
  iexact Hg

set_option backward.isDefEq.respectTransparency.types false in
/-- The launch: every execution terminates with every array at the data's final contents and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.KernelFrame.lean ====
/-
  Hand-written. The kernel's frame. The kernel and its reading over the extended reals are the same text, printed twice, and the run of
  Data.lean is proved for any floats: here the two texts are shown equal, and the run is taken at the formats' own words.
-/
module

public import proofs.«01_k».proof.Proof.Data
public import proofs.«01_k».proof.Proof.Gen.Kernel
public import proofs.«01_k».proof.Defs

@[expose] public section

set_option maxRecDepth 16384

noncomputable section

namespace Cert.Kernel.Hand

open Cert.Kernel Cert.Kernel.Gen
open Idealize.ShloMosaic Idealize.ShloMosaic.TcCoe Idealize.SL.Sem

/-! The two programs are equal, part by part. -/

theorem part1_eq : Cert.Kernel.k0_part1 (F := Bits) = Cert.KernelIdeal.k0_part1 (F := Bits) := rfl
theorem part2_eq : Cert.Kernel.k0_part2 (F := Bits) = Cert.KernelIdeal.k0_part2 (F := Bits) := rfl
theorem body_eq : Cert.Kernel.cc0_attn_out_proj_fp8 (F := Bits) = Cert.KernelIdeal.cc0_attn_out_proj_fp8 (F := Bits) := rfl
theorem cfg_eq : Cert.Kernel.cfg0 = Cert.KernelIdeal.cfg0 := rfl
theorem main_eq : Cert.Kernel.main (F := Bits) = Cert.KernelIdeal.main (F := Bits) := rfl

theorem defs0_eq : Cert.Kernel.defs₀ (F := Bits) = Cert.KernelIdeal.defs₀ (F := Bits) := by
  refine congrArg (Defs.onTc (nD := nD) (τ := τ) (sig := sig) (Val := Elt Bits) (Λ := Λ₀)) (funext fun l => funext fun a => ?_)
  match l, a with
  | ⟨0, _⟩, (t, s) =>
    rw [show cc0_attn_out_proj_fp8 (F := Bits) = Cert.KernelIdeal.cc0_attn_out_proj_fp8 (F := Bits) from body_eq]
    rfl
  | ⟨_ + 1, h⟩, _ => exact absurd h (by omega)

theorem defs_eq : Cert.Kernel.defs (F := Bits) = Cert.KernelIdeal.defs (F := Bits) :=
  congrArg (Pipeline.defs (Cert.Kernel.pcfgs (F := Bits))) defs0_eq

/-- THE FRAME: the kernel terminates, its arguments end unchanged and every counter at zero. -/
theorem frame (m : (ℓ : Loc nD τ sig) → Buf (Elt Bits) ℓ) (ρ : Dev nD → PrngReg) :
    θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (congrArg (fun D => θ_run D (onTc (τ := τ) (main (F := Bits))) ⟨m, fun _ => 0, ρ⟩ _) defs_eq).mpr ?_
  exact Cert.KernelIdeal.Hand.frame (F := Bits) m ρ

end Cert.Kernel.Hand

end
-- ==== Proof.Exponent.lean ====
/-
  Hand-written. The quantiser's power-of-two scale, on the extended reals. The kernel finds the exponent `e` of
  `a = amax / 448` bit by bit, comparing `a` with the float whose exponent field is the candidate, and builds `2^e` and
  `2^-e` by placing `e + 127` and `127 - e` in that field. The reference takes `e = ⌊log a / log 2⌋ + 1` and `2^e`,
  `2^-e` as powers, with f32's own end cases. The two give the same scale and the same inverse for every `amax`.
-/
module

public import Idealize.ShloMosaic.PureOps.Ideal.Laws

@[expose] public section

noncomputable section

namespace Cert.Hand

open Idealize.ShloMosaic

/-! ## The two quantisers' scalars, as the programs print them -/

/-- One step of the kernel's search: keep the candidate field `f + bit` when `a` is at least its float. -/
def kstep (a : EReal) (f bit : BitVec 32) : BitVec 32 :=
  Scalar.select (Ideal.cmp .oge a (Ideal.ofBits .f32 (IntOp.shli .vector (IntOp.addi f bit) 23#32))) (IntOp.addi f bit) f

/-- The exponent field of `a`, from its high bit to its low one. -/
def kfield (a : EReal) : BitVec 32 :=
  kstep a (kstep a (kstep a (kstep a (kstep a (kstep a (kstep a (kstep a 0#32 128#32) 64#32) 32#32) 16#32) 8#32) 4#32) 2#32) 1#32

/-- The kernel's exponent: 0 for a zero row, for a subnormal and for an infinity. -/
def kexp (m a : EReal) : BitVec 32 :=
  Scalar.select (Ideal.cmp .oeq m (Ideal.ofBits .f32 0x00000000#32)) 0#32
    (Scalar.select (IntOp.ori (IntOp.cmpi .eq (kfield a) 0#32) (IntOp.cmpi .eq (kfield a) 255#32)) 0#32 (IntOp.subi (kfield a) 126#32))

/-- The kernel's `2^e`: `e + 127`, clamped to a field's range, in the exponent field. -/
def kpow (e : BitVec 32) : EReal :=
  Ideal.ofBits .f32 (IntOp.shli .vector (IntOp.minsi 255#32 (IntOp.maxsi 0#32 (IntOp.addi e 127#32))) 23#32)

/-- The reference's exponent. -/
def rexp (m a : EReal) : EReal :=
  Scalar.select (Ideal.cmp .oeq m (Ideal.ofBits .f32 0x00000000#32)) (Ideal.ofBits .f32 0x00000000#32)
    (Scalar.select (IntOp.ori (Ideal.cmp .olt a (Ideal.ofBits .f32 0x00800000#32)) (Ideal.cmp .oeq a (Ideal.ofBits .f32 0x7F800000#32)))
      (Ideal.ofBits .f32 0x00000000#32)
      (min (Ideal.liftRound Int.floor (Ideal.div (Ideal.log a) (Ideal.log (Ideal.ofBits .f32 0x40000000#32))) + Ideal.ofBits .f32 0x3F800000#32)
        (Ideal.ofBits .f32 0x43000000#32)))

/-- The reference's `2^e`, with f32's range: 0 below -126, infinity above 127. -/
def rpow (e : EReal) : EReal :=
  Scalar.select (Ideal.cmp .olt e (Ideal.ofBits .f32 0xC2FC0000#32)) (Ideal.ofBits .f32 0x00000000#32)
    (Scalar.select (Ideal.cmp .ogt e (Ideal.ofBits .f32 0x42FE0000#32)) (Ideal.ofBits .f32 0x7F800000#32) (Ideal.exp2 e))

/-! ## The constants -/

theorem c_zero : Ideal.ofBits .f32 0x00000000#32 = 0 := by simp [Ideal.ofBits, Ideal.ieee]
theorem c_one : Ideal.ofBits .f32 0x3F800000#32 = ((1 : ℝ) : EReal) := by simp [Ideal.ofBits, Ideal.ieee, -EReal.coe_mul]; norm_num
theorem c_two : Ideal.ofBits .f32 0x40000000#32 = ((2 : ℝ) : EReal) := by simp [Ideal.ofBits, Ideal.ieee, -EReal.coe_mul]; norm_num
theorem c_128 : Ideal.ofBits .f32 0x43000000#32 = ((128 : ℝ) : EReal) := by simp [Ideal.ofBits, Ideal.ieee, -EReal.coe_mul]; norm_num
theorem c_127 : Ideal.ofBits .f32 0x42FE0000#32 = ((127 : ℝ) : EReal) := by simp [Ideal.ofBits, Ideal.ieee, -EReal.coe_mul]; norm_num
theorem c_m126 : Ideal.ofBits .f32 0xC2FC0000#32 = ((-126 : ℝ) : EReal) := by
  simp [Ideal.ofBits, Ideal.ieee, -EReal.coe_mul, -EReal.coe_neg]; norm_num
theorem c_inf : Ideal.ofBits .f32 0x7F800000#32 = ⊤ := by simp [Ideal.ofBits, Ideal.ieee]
theorem c_min : Ideal.ofBits .f32 0x00800000#32 = (((2 : ℝ) ^ (-126 : ℤ) : ℝ) : EReal) := by
  simp [Ideal.ofBits, Ideal.ieee, -EReal.coe_mul]; norm_num

/-! ## A float with only an exponent field -/

/-- The float whose exponent field is `n` and whose other bits are zero. -/
def fieldF (n : ℕ) : EReal := if n = 0 then 0 else if n = 255 then ⊤ else (((2 : ℝ) ^ ((n : ℤ) - 127) : ℝ) : EReal)

theorem field_sign : ∀ n : Fin 256, ((BitVec.ofNat 32 n.val <<< 23).extractLsb' (8 + 23) 1 == 1#1) = false := by decide +kernel
theorem field_exp : ∀ n : Fin 256, ((BitVec.ofNat 32 n.val <<< 23).extractLsb' 23 8).toNat = n.val := by decide +kernel
theorem field_frac : ∀ n : Fin 256, ((BitVec.ofNat 32 n.val <<< 23).extractLsb' 0 23).toNat = 0 := by decide +kernel
theorem field_shl : ∀ n : Fin 256, IntOp.shli .vector (BitVec.ofNat 32 n.val) 23#32 = BitVec.ofNat 32 n.val <<< 23 := fun n => by
  unfold IntOp.shli; rw [if_pos (by decide)]; rfl

theorem significand (n : ℕ) : (((if false = true then (-1 : ℝ) else 1) * (2 ^ 23 + 0 : ℕ) * (2 : ℝ) ^ ((n : ℤ) - (2 ^ (8 - 1) - 1 : ℤ) - (23 : ℕ)) : ℝ) : EReal)
    = (((2 : ℝ) ^ ((n : ℤ) - 127) : ℝ) : EReal) := by
  have e0 : ((2 ^ 23 + 0 : ℕ) : ℝ) = (2 : ℝ) ^ (23 : ℤ) := by norm_num
  have e1 : (23 : ℤ) + ((n : ℤ) - (2 ^ (8 - 1) - 1 : ℤ) - (23 : ℕ)) = (n : ℤ) - 127 := by norm_num
  have e2 : (if false = true then (-1 : ℝ) else 1) = 1 := if_neg (by decide)
  rw [e0, e2, one_mul, ← zpow_add₀ (by norm_num : (2 : ℝ) ≠ 0), e1]

theorem ofBits_field (n : ℕ) (h : n < 256) : Ideal.ofBits .f32 (BitVec.ofNat 32 n <<< 23) = fieldF n := by
  have h1 := field_sign ⟨n, h⟩; have h2 := field_exp ⟨n, h⟩; have h3 := field_frac ⟨n, h⟩
  dsimp only at h1 h2 h3
  show Ideal.ieee 8 23 _ = _
  unfold Ideal.ieee fieldF
  dsimp only
  rw [h1, h2, h3]
  by_cases h0 : n = 0
  · subst h0; simp
  · by_cases h255 : n = 255
    · subst h255; simp
    · rw [if_neg (by omega), if_neg h0, if_neg h0, if_neg h255]
      rw [significand n]

theorem ofBits_shli (n : ℕ) (h : n < 256) : Ideal.ofBits .f32 (IntOp.shli .vector (BitVec.ofNat 32 n) 23#32) = fieldF n := by
  rw [field_shl ⟨n, h⟩]; exact ofBits_field n h

/-! ## The search -/

theorem sel_ofBool {α : Type} (p : Prop) [Decidable p] (x y : α) : Scalar.select (BitVec.ofBool (decide p)) x y = if p then x else y := by
  by_cases h : p <;> simp [Scalar.select, h]

theorem kstep_eq (a : EReal) (f b : ℕ) (h : f + b < 256) :
    kstep a (BitVec.ofNat 32 f) (BitVec.ofNat 32 b) = BitVec.ofNat 32 (if fieldF (f + b) ≤ a then f + b else f) := by
  unfold kstep
  rw [show IntOp.addi (BitVec.ofNat 32 f) (BitVec.ofNat 32 b) = BitVec.ofNat 32 (f + b) from (BitVec.ofNat_add ..).symm, ofBits_shli _ h]
  show Scalar.select (BitVec.ofBool (decide (fieldF (f + b) ≤ a))) _ _ = _
  rw [sel_ofBool]; split <;> rfl

/-- What the search knows with `w` candidates left from `f`: `a` reaches `f`'s float and not `f + w`'s. -/
def Inv (a : EReal) (f w : ℕ) : Prop := f + w ≤ 256 ∧ (f = 0 ∨ fieldF f ≤ a) ∧ (f + w = 256 ∨ a < fieldF (f + w))

theorem Inv.step {a : EReal} {v : BitVec 32} (b : ℕ) (hb : 0 < b) (h : ∃ f, v = BitVec.ofNat 32 f ∧ Inv a f (b + b)) :
    ∃ f, kstep a v (BitVec.ofNat 32 b) = BitVec.ofNat 32 f ∧ Inv a f b := by
  obtain ⟨f, rfl, h1, h2, h3⟩ := h
  refine ⟨_, kstep_eq a f b (by omega), ?_⟩
  by_cases hc : fieldF (f + b) ≤ a
  · rw [if_pos hc]; exact ⟨by omega, Or.inr hc, by rwa [add_assoc]⟩
  · rw [if_neg hc]; exact ⟨by omega, h2, Or.inr (not_le.mp hc)⟩

theorem kfield_spec (a : EReal) : ∃ f, kfield a = BitVec.ofNat 32 f ∧ Inv a f 1 :=
  Inv.step 1 (by decide) <| Inv.step 2 (by decide) <| Inv.step 4 (by decide) <| Inv.step 8 (by decide) <| Inv.step 16 (by decide)
    <| Inv.step 32 (by decide) <| Inv.step 64 (by decide) <| Inv.step 128 (by decide) ⟨0, rfl, by omega, Or.inl rfl, Or.inl rfl⟩

/-! ## The exponent -/

/-- For `2^(n-127) ≤ a < 2^(n-126)` (no upper bound in the last binade) the logarithm's floor, one added and cut at 128, is `n - 126`. -/
theorem log_floor (a : EReal) (n : ℕ) (h1 : 1 ≤ n) (h2 : n ≤ 254) (hlo : fieldF n ≤ a) (hhi : a < fieldF (n + 1)) :
    min (Ideal.liftRound Int.floor (Ideal.div (Ideal.log a) (Ideal.log (((2 : ℝ)) : EReal))) + ((1 : ℝ) : EReal)) ((128 : ℝ) : EReal)
      = ((((n : ℤ) - 126 : ℤ) : ℝ) : EReal) := by
  have hlo' : (((2 : ℝ) ^ ((n : ℤ) - 127) : ℝ) : EReal) ≤ a := by
    have := hlo; unfold fieldF at this; rwa [if_neg (by omega), if_neg (by omega)] at this
  have hat : a ≠ ⊤ := ne_top_of_lt hhi
  have hpos : (0 : ℝ) < (2 : ℝ) ^ ((n : ℤ) - 127) := zpow_pos (by norm_num) _
  induction a using EReal.rec with
  | bot => exact absurd hlo' (by simp)
  | top => exact absurd rfl hat
  | coe r =>
    have hr : (2 : ℝ) ^ ((n : ℤ) - 127) ≤ r := EReal.coe_le_coe_iff.mp hlo'
    have hr0 : 0 < r := lt_of_lt_of_le hpos hr
    have hl2 : (0 : ℝ) < Real.log 2 := Real.log_pos (by norm_num)
    have e1 : Ideal.log ((r : ℝ) : EReal) = ((Real.log r : ℝ) : EReal) := by
      show (if r ≤ 0 then (⊥ : EReal) else _) = _; rw [if_neg (not_le.mpr hr0)]
    have e2 : Ideal.log (((2 : ℝ)) : EReal) = ((Real.log 2 : ℝ) : EReal) := by
      show (if (2 : ℝ) ≤ 0 then (⊥ : EReal) else _) = _; rw [if_neg (by norm_num)]
    have e3 : Ideal.div ((Real.log r : ℝ) : EReal) ((Real.log 2 : ℝ) : EReal) = ((Real.log r / Real.log 2 : ℝ) : EReal) := by
      unfold Ideal.div
      rw [if_neg (by exact_mod_cast hl2.ne'), ← EReal.coe_inv, ← EReal.coe_mul, div_eq_mul_inv]
    rw [e1, e2, e3]
    show min ((((⌊Real.log r / Real.log 2⌋ : ℤ) : ℝ) : EReal) + ((1 : ℝ) : EReal)) ((128 : ℝ) : EReal) = _
    rw [← EReal.coe_add, ← EReal.coe_strictMono.monotone.map_min]
    congr 1
    have hlow : ((n : ℤ) - 127 : ℤ) ≤ ⌊Real.log r / Real.log 2⌋ := by
      rw [Int.le_floor, le_div_iff₀ hl2, ← Real.log_zpow]
      exact Real.log_le_log hpos hr
    by_cases h254 : n = 254
    · subst h254
      rw [min_eq_right]
      · norm_num
      · have : ((127 : ℤ) : ℝ) ≤ (⌊Real.log r / Real.log 2⌋ : ℝ) := by exact_mod_cast hlow
        norm_num at this ⊢; linarith
    · have hhi' : r < (2 : ℝ) ^ ((n : ℤ) - 126) := by
        have := hhi; unfold fieldF at this
        rw [if_neg (by omega), if_neg (by omega)] at this
        have := EReal.coe_lt_coe_iff.mp this
        rwa [show (((n + 1 : ℕ) : ℤ) - 127) = (n : ℤ) - 126 by push_cast; ring] at this
      have hup : ⌊Real.log r / Real.log 2⌋ < (n : ℤ) - 126 := by
        rw [Int.floor_lt, div_lt_iff₀ hl2, ← Real.log_zpow]
        exact Real.log_lt_log hr0 hhi'
      have he : ⌊Real.log r / Real.log 2⌋ = (n : ℤ) - 127 := by omega
      rw [he, min_eq_left]
      · push_cast; ring
      · have : (n : ℝ) ≤ 254 := by exact_mod_cast h2
        push_cast; linarith

/-- BOTH PROGRAMS' EXPONENT IS ONE INTEGER, between -125 and 128. -/
theorem exp_spec (m a : EReal) : ∃ e : ℤ, -125 ≤ e ∧ e ≤ 128 ∧ kexp m a = BitVec.ofInt 32 e ∧ rexp m a = ((e : ℝ) : EReal) := by
  unfold kexp rexp
  rw [c_zero, c_min, c_inf, c_one, c_two, c_128]
  show ∃ e : ℤ, _ ∧ _ ∧ Scalar.select (BitVec.ofBool (decide (m = 0))) _ _ = _ ∧ Scalar.select (BitVec.ofBool (decide (m = 0))) _ _ = _
  rw [sel_ofBool, sel_ofBool]
  by_cases hm : m = 0
  · rw [if_pos hm, if_pos hm]; exact ⟨0, by norm_num, by norm_num, rfl, by simp⟩
  rw [if_neg hm, if_neg hm]
  obtain ⟨f, hf, h1, h2, h3⟩ := kfield_spec a
  rw [hf]
  by_cases hf0 : f = 0
  · subst hf0
    have hlt : a < (((2 : ℝ) ^ (-126 : ℤ) : ℝ) : EReal) := by
      rcases h3 with h | h
      · omega
      · unfold fieldF at h; rw [if_neg (by omega), if_neg (by omega)] at h
        have e : (((0 + 1 : ℕ) : ℤ) - 127) = -126 := by norm_num
        rwa [e] at h
    refine ⟨0, by norm_num, by norm_num, rfl, ?_⟩
    show Scalar.select (BitVec.ofBool (decide _) ||| BitVec.ofBool (decide _)) _ _ = _
    rw [decide_eq_true hlt]
    by_cases ht : a = ⊤ <;> simp [ht, Scalar.select]
  by_cases hf255 : f = 255
  · subst hf255
    have ht : a = ⊤ := by
      rcases h2 with h | h
      · omega
      · unfold fieldF at h; simpa using h
    refine ⟨0, by norm_num, by norm_num, rfl, ?_⟩
    show Scalar.select (BitVec.ofBool (decide _) ||| BitVec.ofBool (decide _)) _ _ = _
    rw [decide_eq_true ht]
    cases (decide (a < (((2 : ℝ) ^ (-126 : ℤ) : ℝ) : EReal))) <;> simp [Scalar.select]
  have hlo : fieldF f ≤ a := h2.resolve_left hf0
  have hhi : a < fieldF (f + 1) := h3.resolve_left (by omega)
  have hf' : f ≤ 254 := by omega
  refine ⟨(f : ℤ) - 126, by omega, by omega, ?_, ?_⟩
  · have key : ∀ n : Fin 255, n.val ≠ 0 →
        Scalar.select (IntOp.ori (IntOp.cmpi .eq (BitVec.ofNat 32 n.val) 0#32) (IntOp.cmpi .eq (BitVec.ofNat 32 n.val) 255#32)) 0#32
          (IntOp.subi (BitVec.ofNat 32 n.val) 126#32) = BitVec.ofInt 32 ((n.val : ℤ) - 126) := by decide +kernel
    exact key ⟨f, by omega⟩ hf0
  · have hn1 : ¬ a < (((2 : ℝ) ^ (-126 : ℤ) : ℝ) : EReal) := by
      refine not_lt.mpr (le_trans ?_ hlo)
      unfold fieldF; rw [if_neg hf0, if_neg hf255]
      exact EReal.coe_le_coe_iff.mpr (zpow_le_zpow_right₀ (by norm_num) (by omega))
    have hn2 : a ≠ ⊤ := ne_top_of_lt hhi
    show Scalar.select (BitVec.ofBool (decide _) ||| BitVec.ofBool (decide _)) _ _ = _
    rw [decide_eq_false hn1, decide_eq_false hn2]
    exact log_floor a f (by omega) hf' hlo hhi

/-! ## The powers -/

/-- Both programs' `2^e`, for an exponent or its negation. -/
theorem pow_spec (e : ℤ) (h1 : -128 ≤ e) (h2 : e ≤ 128) : kpow (BitVec.ofInt 32 e) = rpow ((e : ℝ) : EReal) := by
  have key : ∀ n : Fin 257, IntOp.minsi 255#32 (IntOp.maxsi 0#32 (IntOp.addi (BitVec.ofInt 32 ((n.val : ℤ) - 128)) 127#32))
      = BitVec.ofNat 32 (min (n.val - 1) 255) := by decide +kernel
  have hk := key ⟨(e + 128).toNat, by omega⟩
  have hn : (((e + 128).toNat : ℕ) : ℤ) - 128 = e := by omega
  dsimp only at hk
  rw [hn] at hk
  unfold kpow rpow
  rw [hk, ofBits_shli _ (by omega), c_zero, c_inf, c_127, c_m126]
  show _ = Scalar.select (BitVec.ofBool (decide (((e : ℝ) : EReal) < ((-126 : ℝ) : EReal)))) _ (Scalar.select (BitVec.ofBool (decide (((127 : ℝ) : EReal) < ((e : ℝ) : EReal)))) _ _)
  rw [sel_ofBool, sel_ofBool]
  have i1 : ((e : ℝ) : EReal) < ((-126 : ℝ) : EReal) ↔ e < -126 := by
    rw [EReal.coe_lt_coe_iff]; exact_mod_cast Iff.rfl
  have i2 : ((127 : ℝ) : EReal) < ((e : ℝ) : EReal) ↔ 127 < e := by
    rw [EReal.coe_lt_coe_iff]; exact_mod_cast Iff.rfl
  simp only [i1, i2]
  unfold fieldF
  by_cases ha : e < -126
  · rw [if_pos ha, if_pos (by omega)]
  · rw [if_neg ha, if_neg (by omega)]
    by_cases hb : 127 < e
    · rw [if_pos hb, if_pos (by omega)]
    · rw [if_neg hb, if_neg (by omega)]
      show _ = ((Real.rpow 2 (e : ℝ) : ℝ) : EReal)
      congr 1
      show _ = (2 : ℝ) ^ (e : ℝ)
      rw [Real.rpow_intCast]
      congr 1; omega

/-- THE SCALE is the same, -/
theorem scale_eq (m a : EReal) : kpow (kexp m a) = rpow (rexp m a) := by
  obtain ⟨e, h1, h2, hk, hr⟩ := exp_spec m a
  rw [hk, hr]; exact pow_spec e (by omega) h2

/-- and so is its inverse. -/
theorem inv_eq (m a : EReal) : kpow (IntOp.subi 0#32 (kexp m a)) = rpow (Ideal.ofBits .f32 0x00000000#32 - rexp m a) := by
  obtain ⟨e, h1, h2, hk, hr⟩ := exp_spec m a
  rw [hk, hr, c_zero]
  have e1 : IntOp.subi 0#32 (BitVec.ofInt 32 e) = BitVec.ofInt 32 (-e) := by
    have key : ∀ n : Fin 254, IntOp.subi 0#32 (BitVec.ofInt 32 ((n.val : ℤ) - 125)) = BitVec.ofInt 32 (-((n.val : ℤ) - 125)) := by decide +kernel
    have := key ⟨(e + 125).toNat, by omega⟩
    dsimp only at this
    rwa [show (((e + 125).toNat : ℕ) : ℤ) - 125 = e by omega] at this
  have e2 : (0 : EReal) - ((e : ℝ) : EReal) = (((-e : ℤ) : ℝ) : EReal) := by
    rw [zero_sub]; push_cast; rfl
  rw [e1, e2]
  exact pow_spec (-e) (by omega) (by omega)

end Cert.Hand

end
-- ==== Proof.Spec.lean ====
/-
  Hand-written. What both programs compute, row by row: a row's largest magnitude, its scale and its inverse scale, its
  codes, and one element of the result.
-/
module

public import proofs.«01_k».proof.Proof.Exponent
public import Idealize.ShloMosaic.Lib.Pointwise.Index

@[expose] public section

noncomputable section

namespace Cert.Hand

open Idealize.ShloMosaic

/-- The largest magnitude of a row. -/
def amax (r : Fin 2560 → EReal) : EReal :=
  (Finset.univ : Finset (Fin 2560)).fold max (Ideal.ofBits .f32 0xFF800000#32) fun k => max (r k) (-r k)

/-- The scale before it is rounded up to a power of two: the largest magnitude over 448. -/
def ascale (r : Fin 2560 → EReal) : EReal := amax r * Ideal.ofBits .f32 0x3B124925#32

/-- The row's scale, a power of two. -/
def scaleOf (r : Fin 2560 → EReal) : EReal := rpow (rexp (amax r) (ascale r))

/-- The power of two the row is multiplied by. -/
def invOf (r : Fin 2560 → EReal) : EReal := rpow (Ideal.ofBits .f32 0x00000000#32 - rexp (amax r) (ascale r))

/-- The code of the row's element `k`, clamped to ±448. -/
def codeOf (r : Fin 2560 → EReal) (k : Fin 2560) : EReal :=
  min (Ideal.ofBits .f32 0x43E00000#32) (max (Ideal.ofBits .f32 0xC3E00000#32) (r k * invOf r))

/-- One element of the result: the product of the row's codes with a column, rescaled, plus the residual. -/
def yOf (r w : Fin 2560 → EReal) (ws res : EReal) : EReal := (∑ k : Fin 2560, codeOf r k * w k) * scaleOf r * ws + res

/-! ## The three results -/

/-- Row `n` of the 3072 rows (`n < 3072`), as its batch -/
def batchOf (n : ℕ) : Fin 3 := ⟨n / 1024 % 3, Nat.mod_lt _ (by omega)⟩
/-- and its row in the batch. -/
def rowOf (n : ℕ) : Fin 1024 := ⟨n % 1024, Nat.mod_lt _ (by omega)⟩

/-- A row of the activations. -/
def rowX (X : (⟨3, ![3, 1024, 2560]⟩ : Shape).Idx → EReal) (b : Fin 3) (s : Fin 1024) : Fin 2560 → EReal := fun k => X (ix3 b s k)

/-- The result, the 3072 rows laid out 384 by 8. -/
def resY (X : (⟨3, ![3, 1024, 2560]⟩ : Shape).Idx → EReal) (W : (⟨2, ![2560, 5120]⟩ : Shape).Idx → EReal)
    (ws : (⟨2, ![1, 5120]⟩ : Shape).Idx → EReal) (R : (⟨3, ![3, 1024, 5120]⟩ : Shape).Idx → EReal) :
    (⟨3, ![384, 8, 5120]⟩ : Shape).Idx → EReal := fun j =>
  yOf (rowX X (batchOf ((j 0).val * 8 + (j 1).val)) (rowOf ((j 0).val * 8 + (j 1).val))) (fun k => W (ix2 k (j 2)))
    (ws (ix2 0 (j 2))) (R (ix3 (batchOf ((j 0).val * 8 + (j 1).val)) (rowOf ((j 0).val * 8 + (j 1).val)) (j 2)))

/-- The codes. -/
def resC (X : (⟨3, ![3, 1024, 2560]⟩ : Shape).Idx → EReal) : (⟨3, ![3, 1024, 2560]⟩ : Shape).Idx → EReal := fun j =>
  codeOf (rowX X (j 0) (j 1)) (j 2)

/-- The scales, one row of 3072. -/
def resS (X : (⟨3, ![3, 1024, 2560]⟩ : Shape).Idx → EReal) : (⟨2, ![1, 3072]⟩ : Shape).Idx → EReal := fun j =>
  scaleOf (rowX X (batchOf (j 1).val) (rowOf (j 1).val))

end Cert.Hand

end
-- ==== Proof.KernelExp.lean ====
/-
  Hand-written. The kernel's exponent column, step by step: at every row it is `Cert.Hand.kexp` of the row's largest magnitude and
  scale.
-/
module

public import proofs.«01_k».proof.Proof.Spec
public import proofs.«01_k».proof.Proof.Run
public import Idealize.ShloMosaic.Lib.Pointwise

@[expose] public section

set_option maxRecDepth 16384

noncomputable section

namespace Cert.KernelIdeal.Hand

open Cert.KernelIdeal Cert.KernelIdeal.Gen Cert.Hand
open Idealize.ShloMosaic

/-- The exponent column. -/
abbrev expB (x : Vec Ideal S1x1024x2560 .bf16) : IVec S1024x1 32 := k0_pay11 (F := Ideal) (k0_pay8 x) (k0_pay9 x) (k0_pay10 x)

/-- One step of the search for the exponent field, on the column. -/
def vstep (a : FVec Ideal S1024x1 .f32) (f : IVec S1024x1 32) (bit : BitVec 32) : IVec S1024x1 32 :=
  select (cmpf .oge a (bitcastToFloat .f32 (shli (addi f (broadcast S1024x1 bit)) (broadcast S1024x1 23#32))))
    (addi f (broadcast S1024x1 bit)) f

theorem vstep_apply (a : FVec Ideal S1024x1 .f32) (f : IVec S1024x1 32) (bit : BitVec 32) (j : S1024x1.Idx) :
    vstep a f bit j = kstep (a j) (f j) bit := rfl

theorem pay10_eq (x : Vec Ideal S1x1024x2560 .bf16) :
    k0_pay10 (F := Ideal) x = vstep (k0_pay9 x) (vstep (k0_pay9 x) (vstep (k0_pay9 x) (vstep (k0_pay9 x) (vstep (k0_pay9 x)
      (broadcast S1024x1 0#32) 128#32) 64#32) 32#32) 16#32) 8#32 := by
  unfold k0_pay10; rfl

/-- The exponent from the last three steps of the search. -/
def vfin (m : FVec Ideal S1024x1 .f32) (f : IVec S1024x1 32) : IVec S1024x1 32 :=
  select (cmpf .oeq m (broadcast S1024x1 (Scalar.ofBits .f32 0x00000000#32))) (broadcast S1024x1 0#32)
    (select (ori (cmpi .eq f (broadcast S1024x1 0#32)) (cmpi .eq f (broadcast S1024x1 255#32))) (broadcast S1024x1 0#32)
      (subi f (broadcast S1024x1 126#32)))

theorem pay11_eq (m a : FVec Ideal S1024x1 .f32) (f : IVec S1024x1 32) :
    k0_pay11 (F := Ideal) m a f = vfin m (vstep a (vstep a (vstep a f 4#32) 2#32) 1#32) := by
  unfold k0_pay11; rfl

theorem vfin_apply (m : FVec Ideal S1024x1 .f32) (f : IVec S1024x1 32) (j : S1024x1.Idx) :
    vfin m f j = Scalar.select (Ideal.cmp .oeq (m j) (Ideal.ofBits .f32 0x00000000#32)) 0#32
      (Scalar.select (IntOp.ori (IntOp.cmpi .eq (f j) 0#32) (IntOp.cmpi .eq (f j) 255#32)) 0#32 (IntOp.subi (f j) 126#32)) := rfl

/-- The whole search, at a row. -/
theorem vfield_apply (a : FVec Ideal S1024x1 .f32) (z : IVec S1024x1 32) (j : S1024x1.Idx) (hz : z j = 0#32) :
    vstep a (vstep a (vstep a (vstep a (vstep a (vstep a (vstep a (vstep a z 128#32) 64#32) 32#32) 16#32) 8#32) 4#32) 2#32) 1#32 j
      = kfield (a j) := by
  rw [vstep_apply, vstep_apply, vstep_apply, vstep_apply, vstep_apply, vstep_apply, vstep_apply, vstep_apply, hz, kfield]

theorem vexp_apply (m a : FVec Ideal S1024x1 .f32) (f : IVec S1024x1 32) (j : S1024x1.Idx) (hf : f j = kfield (a j)) :
    vfin m f j = kexp (m j) (a j) := by
  rw [vfin_apply, hf, kexp]

theorem exp_apply (x : Vec Ideal S1x1024x2560 .bf16) (j : S1024x1.Idx) : expB x j = kexp (k0_pay8 (F := Ideal) x j) (k0_pay9 (F := Ideal) x j) := by
  have h : expB x = vfin (k0_pay8 x) _ := pay11_eq (k0_pay8 x) (k0_pay9 x) (k0_pay10 x)
  rw [h]
  refine vexp_apply _ _ _ _ ?_
  rw [pay10_eq]
  exact vfield_apply _ _ _ rfl

end Cert.KernelIdeal.Hand

end
-- ==== Proof.KernelRows.lean ====
/-
  Hand-written. The kernel's payloads read at an index: each is the row's value of Spec.lean.
-/
module

public import proofs.«01_k».proof.Proof.Spec
public import proofs.«01_k».proof.Proof.KernelExp
public import Idealize.ShloMosaic.Lib.Pointwise

@[expose] public section

set_option maxRecDepth 16384

noncomputable section

namespace Cert.KernelIdeal.Hand

open Cert.KernelIdeal Cert.KernelIdeal.Gen Cert.Hand
open Idealize.ShloMosaic

/-- Row `s` of a block of activations. -/
abbrev rowB (x : Vec Ideal S1x1024x2560 .bf16) (s : Fin 1024) : Fin 2560 → EReal := fun k => x (ix3 0 s k)

theorem pay7_apply (x : Vec Ideal S1x1024x2560 .bf16) (s : Fin 1024) (k : Fin 2560) : k0_pay7 (F := Ideal) x (ix2 s k) = (x (ix3 0 s k) : EReal) := by
  pointwise [k0_pay7]

theorem pay8_apply (x : Vec Ideal S1x1024x2560 .bf16) (s : Fin 1024) : k0_pay8 (F := Ideal) x (ix2 s 0) = amax (rowB x s) := by
  pointwise [k0_pay8, pay7_apply]
  rfl

theorem mulc_apply (v : FVec Ideal S1024x1 .f32) (j : S1024x1.Idx) :
    (mulf v (broadcast S1024x1 (Scalar.ofBits .f32 0x3B124925#32)) : FVec Ideal S1024x1 .f32) j = (v j : EReal) * Ideal.ofBits .f32 0x3B124925#32 := rfl

theorem pay9_apply (x : Vec Ideal S1x1024x2560 .bf16) (s : Fin 1024) : k0_pay9 (F := Ideal) x (ix2 s 0) = ascale (rowB x s) := by
  unfold k0_pay9; rw [mulc_apply, pay8_apply, ascale]

/-- The power of two whose exponent a column holds, at a row. -/
theorem pow_apply (e : IVec S1024x1 32) (j : S1024x1.Idx) :
    (bitcastToFloat .f32 (shli (minsi (broadcast S1024x1 255#32) (maxsi (broadcast S1024x1 0#32) (addi e (broadcast S1024x1 127#32))))
      (broadcast S1024x1 23#32)) : FVec Ideal S1024x1 .f32) j = kpow (e j) := rfl

theorem pay12_apply (x : Vec Ideal S1x1024x2560 .bf16) (j : S1024x1.Idx) : scaleB (F := Ideal) x j = kpow (expB x j) := by
  unfold scaleB k0_pay12; exact pow_apply _ _

theorem scaleB_apply (x : Vec Ideal S1x1024x2560 .bf16) (s : Fin 1024) : scaleB (F := Ideal) x (ix2 s 0) = scaleOf (rowB x s) := by
  rw [pay12_apply, exp_apply, scale_eq, pay8_apply, pay9_apply, scaleOf]

theorem pay1_apply (v26 : FVec Ideal S1024x2560 .f32) (e : IVec S1024x1 32) (s : Fin 1024) (k : Fin 2560) :
    k0_pay1 (F := Ideal) v26 e 0#32 (ix2 s k)
      = min (Ideal.ofBits .f32 0x43E00000#32) (max (Ideal.ofBits .f32 0xC3E00000#32) (v26 (ix2 s k) * kpow (IntOp.subi 0#32 (e (ix2 s 0))))) := by
  have hb : ∀ v : FVec Ideal S1024x1 .f32, broadcastTo S1024x2560 v broadcasts_S1024x1_S1024x2560 (ix2 s k) = v (ix2 s 0) := by
    intro v; pointwise
  show min _ (max _ (v26 (ix2 s k) * broadcastTo S1024x2560 _ broadcasts_S1024x1_S1024x2560 (ix2 s k))) = _
  rw [hb]; rfl

theorem codesB_apply (x : Vec Ideal S1x1024x2560 .bf16) (s : Fin 1024) (k : Fin 2560) : codesB (F := Ideal) x (ix3 0 s k) = codeOf (rowB x s) k := by
  have h : codesB (F := Ideal) x (ix3 0 s k) = k0_pay1 (k0_pay7 x) (expB x) 0#32 (ix2 s k) := by
    unfold codesB; pointwise [k0_pay2]
  rw [h, pay1_apply, pay7_apply, exp_apply, inv_eq, pay8_apply, pay9_apply, codeOf, invOf]

theorem scaleRow_apply (x : Vec Ideal S1x1024x2560 .bf16) (s : Fin 1024) : scaleRow (F := Ideal) x (ix2 0 s) = scaleOf (rowB x s) := by
  rw [← scaleB_apply]; unfold scaleRow; pointwise [k0_pay3]

theorem scaleSlab_apply (x : Vec Ideal S1x1024x2560 .bf16) (s : Fin 1024) : scaleSlab (F := Ideal) x (ix3 0 s 0) = scaleOf (rowB x s) := by
  rw [← scaleB_apply]; unfold scaleSlab; pointwise [k0_pay5]

theorem pay6_apply (v4 : Vec Ideal S1x1024x2560 .fp8e4m3) (v6 : Vec Ideal S2560x1024 .fp8e4m3) (v9 : Vec Ideal S1x1024x1 .f32)
    (v13 : Vec Ideal S1x1024 .f32) (v17 : Vec Ideal S1x1024x1024 .bf16) (a : Fin 128) (b : Fin 8) (n : Fin 1024) (s : Fin 1024) (hs : s.val = a.val * 8 + b.val) :
    k0_pay6 (F := Ideal) v4 v6 v9 v13 v17 (ix3 a b n)
      = (∑ k : Fin 2560, v4 (ix3 0 s k) * v6 (ix2 k n)) * v9 (ix3 0 s 0) * v13 (ix2 0 n) + v17 (ix3 0 s n) := by
  pointwise [k0_pay6]
  rw [show (⟨a.val * 8 + b.val, by have := a.isLt; have := b.isLt; omega⟩ : Fin 1024) = s from Fin.ext hs.symm]

end Cert.KernelIdeal.Hand

end
-- ==== Proof.Arrays.lean ====
/-
  Hand-written. The kernel's result arrays after its run: every block written back is the block of Spec.lean's array.
-/
module

public import proofs.«01_k».proof.Proof.KernelRows
public import proofs.«01_k».proof.Proof.Data
public import Idealize.ShloMosaic.Lib.Pipeline.ValueKit.Geometry

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat Cfg Window)

variable (m : (ℓ : Loc nD τ sig) → Buf (Elt Ideal) ℓ)

/-! ## Where the blocks lie -/

theorem ix_0 : ∀ t : Fin cfg0.N, win0_0.index t = ![min t.val 2, 0, 0] :=
  (by decide +kernel : ∀ t : Fin grid0.N, win0_0.index t = ![min t.val 2, 0, 0])
theorem ix_1 : ∀ t : Fin cfg0.N, win0_1.index t = ![0, t.val / 3] :=
  (by decide +kernel : ∀ t : Fin grid0.N, win0_1.index t = ![0, t.val / 3])
theorem ix_2 : ∀ t : Fin cfg0.N, win0_2.index t = ![0, t.val / 3] :=
  (by decide +kernel : ∀ t : Fin grid0.N, win0_2.index t = ![0, t.val / 3])
theorem ix_3 : ∀ t : Fin cfg0.N, win0_3.index t = ![t.val % 3, 0, t.val / 3] :=
  (by decide +kernel : ∀ t : Fin grid0.N, win0_3.index t = ![t.val % 3, 0, t.val / 3])
theorem ix_4 : ∀ t : Fin cfg0.N, win0_4.index t = ![t.val % 3, 0, t.val / 3] :=
  (by decide +kernel : ∀ t : Fin grid0.N, win0_4.index t = ![t.val % 3, 0, t.val / 3])
theorem ix_5 : ∀ t : Fin cfg0.N, win0_5.index t = ![min t.val 2, 0, 0] :=
  (by decide +kernel : ∀ t : Fin grid0.N, win0_5.index t = ![min t.val 2, 0, 0])
theorem ix_6 : ∀ t : Fin cfg0.N, win0_6.index t = ![0, min t.val 2] :=
  (by decide +kernel : ∀ t : Fin grid0.N, win0_6.index t = ![0, min t.val 2])

/-! ## The input blocks at an index -/

theorem xB_apply (c : Dev nD) (b : Fin 3) (s : Fin 1024) (k : Fin 2560) : xB m c b.val (ix3 0 s k) = V m c main_arg0 (ix3 b s k) := by
  show iblk m c 0 (pt b.val) (ix3 0 s k) = _
  have hb := b.isLt
  have hi := ix_0 (pt b.val)
  unfold iblk; rw [View.read_apply]
  show V m c main_arg0 _ = _
  congr 1; funext a; apply Fin.ext
  match a with
  | ⟨0, _⟩ => show win0_0.index (pt b.val) 0 * 1 + 1 * 0 = b.val; rw [hi]; show min (min b.val 2) 2 * 1 + 1 * 0 = b.val; omega
  | ⟨1, _⟩ => show win0_0.index (pt b.val) 1 * 1024 + 1 * s.val = s.val; rw [hi]; show 0 * 1024 + 1 * s.val = s.val; omega
  | ⟨2, _⟩ => show win0_0.index (pt b.val) 2 * 2560 + 1 * k.val = k.val; rw [hi]; show 0 * 2560 + 1 * k.val = k.val; omega

theorem rowB_eq (c : Dev nD) (b : Fin 3) (s : Fin 1024) : rowB (xB m c b.val) s = rowX (V m c main_arg0) b s :=
  funext fun k => xB_apply m c b s k

theorem wB_apply (c : Dev nD) (t : Fin cfg0.N) (k : Fin 2560) (n : Fin 1024) (n' : Fin 5120) (hn : n'.val = t.val / 3 * 1024 + n.val) :
    iblk m c 1 t (ix2 k n) = V m c main_arg1 (ix2 k n') := by
  have hi := ix_1 t
  unfold iblk; rw [View.read_apply]
  show V m c main_arg1 _ = _
  congr 1; funext a; apply Fin.ext
  match a with
  | ⟨0, _⟩ => show win0_1.index t 0 * 2560 + 1 * k.val = k.val; rw [hi]; show 0 * 2560 + 1 * k.val = k.val; omega
  | ⟨1, _⟩ => show win0_1.index t 1 * 1024 + 1 * n.val = n'.val; rw [hi]; show t.val / 3 * 1024 + 1 * n.val = n'.val; omega

theorem sB_apply (c : Dev nD) (t : Fin cfg0.N) (n : Fin 1024) (n' : Fin 5120) (hn : n'.val = t.val / 3 * 1024 + n.val) :
    iblk m c 2 t (ix2 0 n) = V m c main_v0 (ix2 0 n') := by
  have hi := ix_2 t
  unfold iblk; rw [View.read_apply]
  show V m c main_v0 _ = _
  congr 1; funext a; apply Fin.ext
  match a with
  | ⟨0, _⟩ => show win0_2.index t 0 * 1 + 1 * 0 = 0; rw [hi]; rfl
  | ⟨1, _⟩ => show win0_2.index t 1 * 1024 + 1 * n.val = n'.val; rw [hi]; show t.val / 3 * 1024 + 1 * n.val = n'.val; omega

theorem rB_apply (c : Dev nD) (t : Fin cfg0.N) (b : Fin 3) (hb : b.val = t.val % 3) (s : Fin 1024) (n : Fin 1024) (n' : Fin 5120)
    (hn : n'.val = t.val / 3 * 1024 + n.val) : iblk m c 3 t (ix3 0 s n) = V m c main_arg3 (ix3 b s n') := by
  have hi := ix_3 t
  unfold iblk; rw [View.read_apply]
  show V m c main_arg3 _ = _
  congr 1; funext a; apply Fin.ext
  match a with
  | ⟨0, _⟩ => show win0_3.index t 0 * 1 + 1 * 0 = b.val; rw [hi]; show t.val % 3 * 1 + 1 * 0 = b.val; omega
  | ⟨1, _⟩ => show win0_3.index t 1 * 1024 + 1 * s.val = s.val; rw [hi]; show 0 * 1024 + 1 * s.val = s.val; omega
  | ⟨2, _⟩ => show win0_3.index t 2 * 1024 + 1 * n.val = n'.val; rw [hi]; show t.val / 3 * 1024 + 1 * n.val = n'.val; omega

/-! ## The result blocks -/

theorem yB_apply (c : Dev nD) (t : Fin cfg0.N) (a : Fin 128) (b : Fin 8) (n : Fin 1024) (J : S384x8x5120.Idx)
    (h0 : (J 0).val = t.val % 3 * 128 + a.val) (h1 : (J 1).val = b.val) (h2 : (J 2).val = t.val / 3 * 1024 + n.val) :
    yB m c t (ix3 a b n) = resY (V m c main_arg0) (V m c main_arg1) (V m c main_v0) (V m c main_arg3) J := by
  have ha := a.isLt
  have hb := b.isLt
  have hR : (J 0).val * 8 + (J 1).val = t.val % 3 * 1024 + (a.val * 8 + b.val) := by omega
  have hB : (batchOf ((J 0).val * 8 + (J 1).val)).val = t.val % 3 := by
    show ((J 0).val * 8 + (J 1).val) / 1024 % 3 = t.val % 3
    rw [hR]; omega
  have hS : (rowOf ((J 0).val * 8 + (J 1).val)).val = a.val * 8 + b.val := by
    show ((J 0).val * 8 + (J 1).val) % 1024 = a.val * 8 + b.val
    rw [hR]; omega
  unfold yB resY
  rw [pay6_apply _ _ _ _ _ a b n _ hS, ← hB, scaleSlab_apply, rowB_eq, sB_apply m c t n (J 2) h2, rB_apply m c t _ hB _ n (J 2) h2, yOf]
  simp only [codesB_apply, rowB_eq, wB_apply m c t _ n (J 2) h2]

theorem cB_apply (c : Dev nD) (b : Fin 3) (s : Fin 1024) (k : Fin 2560) :
    codesB (xB m c b.val) (ix3 0 s k) = resC (V m c main_arg0) (ix3 b s k) := by
  rw [codesB_apply, rowB_eq]; rfl

theorem rsB_apply (c : Dev nD) (b : Fin 3) (s : Fin 1024) (J : S1x3072.Idx) (h : (J 1).val = b.val * 1024 + s.val) :
    scaleRow (xB m c b.val) (ix2 0 s) = resS (V m c main_arg0) J := by
  have hs := s.isLt
  have hB : batchOf (J 1).val = b := Fin.ext (by show (J 1).val / 1024 % 3 = b.val; have := b.isLt; omega)
  have hS : rowOf (J 1).val = s := Fin.ext (by show (J 1).val % 1024 = s.val; omega)
  rw [scaleRow_apply, rowB_eq, resS, hB, hS]

/-! ## The arrays -/

theorem arr_y (c : Dev nD) :
    (dats m 0 c).arrAt 4 cfg0.N = resY (V m c main_arg0) (V m c main_arg1) (V m c main_v0) (V m c main_arg3) := by
  refine (dats m 0 c).arrAt_eq_of_covers 4 _ (by decide +kernel) fun t hf y => ?_
  have hi := ix_4 t
  blk_simp
  rw [after_4]
  show yB m c t y = _
  rw [show y = ix3 (n0 := 128) (n1 := 8) (n2 := 1024) (y 0) (y 1) (y 2) from eq_ix3 y]
  refine yB_apply m c t (y 0) (y 1) (y 2) _ ?_ ?_ ?_
  · show win0_4.index t 0 * 128 + 1 * (y 0).val = _; rw [hi]; show t.val % 3 * 128 + 1 * (y 0).val = t.val % 3 * 128 + (y 0).val; omega
  · show win0_4.index t 1 * 8 + 1 * (y 1).val = _; rw [hi]; show 0 * 8 + 1 * (y 1).val = (y 1).val; omega
  · show win0_4.index t 2 * 1024 + 1 * (y 2).val = _; rw [hi]; show t.val / 3 * 1024 + 1 * (y 2).val = t.val / 3 * 1024 + (y 2).val; omega

/-- At a point that writes the codes and the scales back, the blocks in the buffers are those of batch `min t 2`. -/
theorem xB_flush (c : Dev nD) (t : Fin cfg0.N) : xB m c t.val = xB m c (min t.val 2) := by
  show iblk m c 0 (pt t.val) = iblk m c 0 (pt (min t.val 2))
  rw [show pt t.val = pt (min t.val 2) from Fin.ext (by show min t.val 2 = min (min t.val 2) 2; omega)]

theorem arr_c (c : Dev nD) : (dats m 0 c).arrAt 5 cfg0.N = resC (V m c main_arg0) := by
  refine (dats m 0 c).arrAt_eq_of_covers 5 _ (by decide +kernel) fun t hf y => ?_
  have hi := ix_5 t
  blk_simp
  rw [after_5, xB_flush]
  show codesB (xB m c (⟨min t.val 2, by omega⟩ : Fin 3).val) y = _
  rw [show y = ix3 (n0 := 1) (n1 := 1024) (n2 := 2560) 0 (y 1) (y 2) from
    (eq_ix3 y).trans (by rw [show y 0 = (0 : Fin 1) from Subsingleton.elim (α := Fin 1) _ _])]
  refine (cB_apply m c _ (y 1) (y 2)).trans (congrArg (resC (V m c main_arg0)) ?_)
  funext a; apply Fin.ext
  match a with
  | ⟨0, _⟩ => show _ = win0_5.index t 0 * 1 + 1 * 0; rw [hi]; show min t.val 2 = min t.val 2 * 1 + 1 * 0; omega
  | ⟨1, _⟩ => show _ = win0_5.index t 1 * 1024 + 1 * (y 1).val; rw [hi]; show (y 1).val = 0 * 1024 + 1 * (y 1).val; omega
  | ⟨2, _⟩ => show _ = win0_5.index t 2 * 2560 + 1 * (y 2).val; rw [hi]; show (y 2).val = 0 * 2560 + 1 * (y 2).val; omega

/-- The scales' array from its blocks, whatever the blocks are. -/
theorem arr_s_of (c : Dev nD) (D : Dat τ (Elt Ideal) Unit ℕ (UR sig nD τ) ℕ cfg0 c) (f : Fin cfg0.N → Vec Ideal S1x1024 .f32)
    (hf : ∀ t, D.after 6 t = f t) (G : Vec Ideal S1x3072 .f32)
    (hG : ∀ (t : Fin cfg0.N) (s : Fin 1024) (J : S1x3072.Idx), (J 1).val = min t.val 2 * 1024 + s.val → f t (ix2 0 s) = G J) :
    D.arrAt 6 cfg0.N = G := by
  refine D.arrAt_eq_of_covers 6 _ (by decide +kernel) fun t _ y => ?_
  have hi := ix_6 t
  blk_simp
  rw [hf]
  show f t y = _
  rw [show y = ix2 (n0 := 1) (n1 := 1024) 0 (y 1) from
    (eq_ix2 y).trans (by rw [show y 0 = (0 : Fin 1) from Subsingleton.elim (α := Fin 1) _ _])]
  refine hG t (y 1) _ ?_
  show win0_6.index t 1 * 1024 + 1 * (y 1).val = _; rw [hi]; show min t.val 2 * 1024 + 1 * (y 1).val = min t.val 2 * 1024 + (y 1).val; omega

theorem arr_s (c : Dev nD) : (dats m 0 c).arrAt 6 cfg0.N = resS (V m c main_arg0) := by
  refine arr_s_of c (dats m 0 c) _ (after_6 m c) _ fun t s J h => ?_
  rw [xB_flush]
  exact rsB_apply m c (⟨min t.val 2, by omega⟩ : Fin 3) s J h

/-- The weights' scales, as the call finds them: the argument as one row. -/
theorem V_scales (c : Dev nD) : V m c main_v0 = shapeCast S1x5120 (m ((c : Thread nD τ).loc main_arg2)) shapeCasts_S5120_S1x5120 := by
  show (StableHlo.reshape main_arg2 main_v0 rfl shapeCasts_S5120_S1x5120 : HloOp τ sig (Elt Ideal)).result (fun b => m (c, b)) main_v0 = _
  rw [StableHlo.reshape_result]; rfl

/-- THE RUN: the three results, from the arguments, which end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = resY (m ((c.tc : Thread nD τ).loc main_arg0)) (m ((c.tc : Thread nD τ).loc main_arg1))
          (shapeCast S1x5120 (m ((c.tc : Thread nD τ).loc main_arg2)) shapeCasts_S5120_S1x5120) (m ((c.tc : Thread nD τ).loc main_arg3))
      ∧ r.2.mem ((c.tc : Thread nD τ).loc main_v1_1) = resC (m ((c.tc : Thread nD τ).loc main_arg0))
      ∧ r.2.mem ((c.tc : Thread nD τ).loc main_v1_2) = resS (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  have hy := ((h.1 c).1 4).trans (arr_y m c)
  have hc := ((h.1 c).1 5).trans (arr_c m c)
  have hs := ((h.1 c).1 6).trans (arr_s m c)
  rw [V_main_arg0, V_main_arg1, V_main_arg3, V_scales] at hy
  rw [V_main_arg0] at hc hs
  exact ⟨hy, hc, hs, h.2 c⟩

end Cert.KernelIdeal.Hand

end
-- ==== Proof.RefRows.lean ====
/-
  Hand-written. The reference's payloads read at an index: each is the row's value of Spec.lean.
-/
module

public import proofs.«01_k».proof.Proof.Spec
public import proofs.«01_k».proof.Proof.Gen.ReferenceIdeal.Skeleton
public import Idealize.ShloMosaic.Lib.Pointwise

@[expose] public section

set_option maxRecDepth 16384

noncomputable section

namespace Cert.ReferenceIdeal.Hand

open Cert.ReferenceIdeal Cert.ReferenceIdeal.Gen Cert.Hand
open Idealize.ShloMosaic

/-! ## The rounded scale, over any column -/

/-- The exponent column, of a column of largest magnitudes `m` and one of scales `a`. -/
def vrexp (m a : FVec Ideal S3x1024x1 .f32) : FVec Ideal S3x1024x1 .f32 :=
  select (cmpf .oeq m (broadcast S3x1024x1 (Scalar.ofBits .f32 0x00000000#32))) (broadcast S3x1024x1 (Scalar.ofBits .f32 0x00000000#32))
    (select (ori (cmpf .olt a (broadcast S3x1024x1 (Scalar.ofBits .f32 0x00800000#32))) (cmpf .oeq a (broadcast S3x1024x1 (Scalar.ofBits .f32 0x7F800000#32))))
      (broadcast S3x1024x1 (Scalar.ofBits .f32 0x00000000#32))
      (minimumf (addf (floor (divf (log a) (log (broadcast S3x1024x1 (Scalar.ofBits .f32 0x40000000#32)))))
        (broadcast S3x1024x1 (Scalar.ofBits .f32 0x3F800000#32))) (broadcast S3x1024x1 (Scalar.ofBits .f32 0x43000000#32))))

theorem vrexp_apply (m a : FVec Ideal S3x1024x1 .f32) (j : S3x1024x1.Idx) : vrexp m a j = rexp (m j) (a j) := rfl

/-- The column of powers of two, of a column of exponents. -/
def vrpow (e : FVec Ideal S3x1024x1 .f32) : FVec Ideal S3x1024x1 .f32 :=
  select (cmpf .olt e (broadcast S3x1024x1 (Scalar.ofBits .f32 0xC2FC0000#32))) (broadcast S3x1024x1 (Scalar.ofBits .f32 0x00000000#32))
    (select (cmpf .ogt e (broadcast S3x1024x1 (Scalar.ofBits .f32 0x42FE0000#32))) (broadcast S3x1024x1 (Scalar.ofBits .f32 0x7F800000#32)) (exp2 e))

theorem vrpow_apply (e : FVec Ideal S3x1024x1 .f32) (j : S3x1024x1.Idx) : vrpow e j = rpow (e j) := rfl

theorem mulc_apply (v : FVec Ideal S3x1024x1 .f32) (j : S3x1024x1.Idx) :
    (mulf v (broadcast S3x1024x1 (Scalar.ofBits .f32 0x3B124925#32)) : FVec Ideal S3x1024x1 .f32) j = (v j : EReal) * Ideal.ofBits .f32 0x3B124925#32 := rfl

theorem neg_apply (v : FVec Ideal S3x1024x1 .f32) (j : S3x1024x1.Idx) :
    (subf (broadcast S3x1024x1 (Scalar.ofBits .f32 0x00000000#32)) v : FVec Ideal S3x1024x1 .f32) j = Ideal.ofBits .f32 0x00000000#32 - (v j : EReal) := rfl

/-! ## The payloads -/

/-- The column of largest magnitudes. -/
def mx (x : Vec Ideal S3x1024x2560 .bf16) : FVec Ideal S3x1024x1 .f32 :=
  shapeCast S3x1024x1 (multiReduction .maximumf [2] S3x1024 (absf (k0_pay4 (F := Ideal) x)) 0xFF800000#32 reduces_S3x1024x2560_S3x1024 (.inl rfl) rfl)
    shapeCasts_S3x1024_S3x1024x1

theorem pay4_apply (x : Vec Ideal S3x1024x2560 .bf16) (j : S3x1024x2560.Idx) : k0_pay4 (F := Ideal) x j = (x j : EReal) := rfl

theorem mx_apply (x : Vec Ideal S3x1024x2560 .bf16) (b : Fin 3) (s : Fin 1024) : mx x (ix3 b s 0) = amax (rowX x b s) := by
  pointwise [mx, pay4_apply]
  rfl

theorem pay5_eq (x : Vec Ideal S3x1024x2560 .bf16) :
    k0_pay5 (F := Ideal) x = vrexp (mx x) (mulf (mx x) (broadcast S3x1024x1 (Scalar.ofBits .f32 0x3B124925#32))) := by
  unfold k0_pay5; rfl

/-- A row's exponent. -/
abbrev rowExp (r : Fin 2560 → EReal) : EReal := rexp (amax r) (ascale r)

theorem pay5_apply (x : Vec Ideal S3x1024x2560 .bf16) (b : Fin 3) (s : Fin 1024) : k0_pay5 (F := Ideal) x (ix3 b s 0) = rowExp (rowX x b s) := by
  rw [pay5_eq, vrexp_apply, mulc_apply, mx_apply, rowExp, ascale]

theorem pay6_eq (x : Vec Ideal S3x1024x2560 .bf16) : k0_pay6 (F := Ideal) x = vrpow (k0_pay5 x) := by
  unfold k0_pay6; rfl

theorem pay6_apply (x : Vec Ideal S3x1024x2560 .bf16) (b : Fin 3) (s : Fin 1024) : k0_pay6 (F := Ideal) x (ix3 b s 0) = scaleOf (rowX x b s) := by
  rw [pay6_eq, vrpow_apply, pay5_apply, scaleOf]

theorem pay7_apply (x : Vec Ideal S3x1024x2560 .bf16) (b : Fin 3) (s : Fin 1024) :
    k0_pay7 (F := Ideal) x (ix3 b s 0) = Ideal.ofBits .f32 0x00000000#32 - rowExp (rowX x b s) := by
  unfold k0_pay7; rw [neg_apply, pay5_apply]

theorem pay8_eq (x : Vec Ideal S3x1024x2560 .bf16) :
    k0_pay8 (F := Ideal) x = cmpf .olt (k0_pay7 x) (broadcast S3x1024x1 (Scalar.ofBits .f32 0xC2FC0000#32)) := by
  unfold k0_pay8; rfl

/-- The codes, of any activations and any column of exponents. -/
theorem pay1_apply (v : FVec Ideal S3x1024x2560 .f32) (e : FVec Ideal S3x1024x1 .f32) (b : Fin 3) (s : Fin 1024) (k : Fin 2560) :
    k0_pay1 (F := Ideal) v e (cmpf .olt e (broadcast S3x1024x1 (Scalar.ofBits .f32 0xC2FC0000#32))) (Scalar.ofBits .f32 0x42FE0000#32) (ix3 b s k)
      = min (Ideal.ofBits .f32 0x43E00000#32) (max (Ideal.ofBits .f32 0xC3E00000#32) (v (ix3 b s k) * rpow (e (ix3 b s 0)))) := by
  have hb : ∀ u : FVec Ideal S3x1024x1 .f32, broadcastTo S3x1024x2560 u broadcasts_S3x1024x1_S3x1024x2560 (ix3 b s k) = u (ix3 b s 0) := by
    intro u; pointwise
  show min _ (max _ (v (ix3 b s k) * broadcastTo S3x1024x2560 _ broadcasts_S3x1024x1_S3x1024x2560 (ix3 b s k))) = _
  rw [hb]; rfl

/-- The codes. -/
abbrev codesR (x : Vec Ideal S3x1024x2560 .bf16) : FVec Ideal S3x1024x2560 .fp8e4m3 :=
  k0_pay1 (F := Ideal) (k0_pay4 x) (k0_pay7 x) (k0_pay8 x) (Scalar.ofBits .f32 0x42FE0000#32)

theorem codesR_apply (x : Vec Ideal S3x1024x2560 .bf16) (b : Fin 3) (s : Fin 1024) (k : Fin 2560) :
    codesR x (ix3 b s k) = codeOf (rowX x b s) k := by
  unfold codesR
  rw [pay8_eq, pay1_apply, pay7_apply, pay4_apply, codeOf, invOf, rowX]

/-- The scales as one row of 3072: entry `n` is that of batch `n / 1024`, row `n % 1024`. -/
theorem pay2_apply (v : FVec Ideal S3x1024x1 .f32) (n : Fin 3072) : k0_pay2 (F := Ideal) v (ix2 0 n) = v (ix3 (batchOf n.val) (rowOf n.val) 0) := by
  pointwise [k0_pay2]
  have hn := n.isLt
  congr 1; funext a; apply Fin.ext
  match a with
  | ⟨0, _⟩ => show n.val / 1024 = n.val / 1024 % 3; omega
  | ⟨1, _⟩ => rfl
  | ⟨2, _⟩ => rfl

/-- The result: the products of the codes with the weights, rescaled, plus the residual. -/
theorem pay3_apply (v : FVec Ideal S3x1024x2560 .f32) (sc e : FVec Ideal S3x1024x1 .f32) (g : IVec S3x1024x1 1) (z : Ideal .f32)
    (w : Vec Ideal S2560x5120 .fp8e4m3) (ws : Vec Ideal S1x5120 .f32) (r : Vec Ideal S3x1024x5120 .bf16) (a : Fin 384) (b : Fin 8) (n : Fin 5120) :
    k0_pay3 (F := Ideal) v sc e g z w ws r (ix3 a b n)
      = (∑ k : Fin 2560, k0_pay1 (F := Ideal) v e g z (ix3 (batchOf (a.val * 8 + b.val)) (rowOf (a.val * 8 + b.val)) k) * w (ix2 k n))
          * sc (ix3 (batchOf (a.val * 8 + b.val)) (rowOf (a.val * 8 + b.val)) 0) * ws (ix2 0 n)
        + r (ix3 (batchOf (a.val * 8 + b.val)) (rowOf (a.val * 8 + b.val)) n) := by
  have ha := a.isLt
  have hb := b.isLt
  have hB : ∀ h, (⟨a.val / 128, h⟩ : Fin 3) = batchOf (a.val * 8 + b.val) := fun h =>
    Fin.ext (by show a.val / 128 = (a.val * 8 + b.val) / 1024 % 3; omega)
  have hS : ∀ h, (⟨a.val % 128 * 8 + b.val, h⟩ : Fin 1024) = rowOf (a.val * 8 + b.val) := fun h =>
    Fin.ext (by show a.val % 128 * 8 + b.val = (a.val * 8 + b.val) % 1024; omega)
  pointwise [k0_pay3]
  simp only [hB, hS]

end Cert.ReferenceIdeal.Hand

end
-- ==== Proof.RefArrays.lean ====
/-
  Hand-written. The reference's result arrays after its run: its one block is the whole array, and holds Spec.lean's array.
-/
module

public import proofs.«01_k».proof.Proof.RefRows
public import proofs.«01_k».proof.Proof.Gen.ReferenceIdeal.Frame
public import Idealize.ShloMosaic.Lib.Pipeline.ValueKit.Geometry

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.SL.Sem
open Idealize.ShloMosaic.Pipeline (Dat Cfg Window)

/-! ## What the body leaves in each output's buffer -/

theorem zero2 : (![0, 0] : Fin 2 → ℕ) = fun _ => 0 := by funext a; fin_cases a <;> rfl
theorem zero3 : (![0, 0, 0] : Fin 3 → ℕ) = fun _ => 0 := by funext a; fin_cases a <;> rfl

variable (X : Vec Ideal S3x1024x2560 .bf16) (W : Vec Ideal S2560x5120 .fp8e4m3) (ws : Vec Ideal S1x5120 .f32) (R : Vec Ideal S3x1024x5120 .bf16)

theorem ldX : View.ld X r0_0 = X := View.ld_unit_zero (S := S3x1024x2560) zero3 _ X
theorem ldW : View.ld W r0_2 = W := View.ld_unit_zero (S := S2560x5120) zero2 _ W
theorem ldws : View.ld ws r0_3 = ws := View.ld_unit_zero (S := S1x5120) zero2 _ ws
theorem ldR : View.ld R r0_4 = R := View.ld_unit_zero (S := S3x1024x5120) zero3 _ R

theorem out4_canon : out0_4 (F := Ideal) X W ws R
    = k0_pay3 (k0_pay4 X) (k0_pay6 X) (k0_pay7 X) (k0_pay8 X) (Scalar.ofBits .f32 0x42FE0000#32) W ws R := by
  unfold out0_4 k0_pay9 k0_pay10 k0_pay11 k0_pay12
  rw [ldX, ldW, ldws, ldR]
  exact View.canon_unit_zero (S := S384x8x5120) zero3 _ _

theorem out5_canon : out0_5 (F := Ideal) X W ws R = codesR X := by
  unfold out0_5 k0_pay9 k0_pay11 k0_pay12
  rw [ldX]
  exact View.canon_unit_zero (S := S3x1024x2560) zero3 _ _

theorem out6_canon : out0_6 (F := Ideal) X W ws R = k0_pay2 (k0_pay6 X) := by
  unfold out0_6 k0_pay10
  rw [ldX]
  exact View.canon_unit_zero (S := S1x3072) zero2 _ _

theorem out4_eq : out0_4 (F := Ideal) X W ws R = resY X W ws R := by
  rw [out4_canon]; funext j
  rw [show j = ix3 (n0 := 384) (n1 := 8) (n2 := 5120) (j 0) (j 1) (j 2) from eq_ix3 j]
  refine (pay3_apply _ _ _ _ _ W ws R (j 0) (j 1) (j 2)).trans ?_
  rw [pay6_apply]
  have hc : ∀ k : Fin 2560, k0_pay1 (F := Ideal) (k0_pay4 X) (k0_pay7 X) (k0_pay8 X) (Scalar.ofBits .f32 0x42FE0000#32)
      (ix3 (batchOf ((j 0).val * 8 + (j 1).val)) (rowOf ((j 0).val * 8 + (j 1).val)) k)
        = codeOf (rowX X (batchOf ((j 0).val * 8 + (j 1).val)) (rowOf ((j 0).val * 8 + (j 1).val))) k := fun k => codesR_apply X _ _ k
  simp only [hc]
  rfl

theorem out5_eq : out0_5 (F := Ideal) X W ws R = resC X := by
  rw [out5_canon]; funext j
  rw [show j = ix3 (n0 := 3) (n1 := 1024) (n2 := 2560) (j 0) (j 1) (j 2) from eq_ix3 j]
  exact codesR_apply X (j 0) (j 1) (j 2)

theorem out6_eq : out0_6 (F := Ideal) X W ws R = resS X := by
  rw [out6_canon]; funext j
  rw [show j = ix2 (n0 := 1) (n1 := 3072) 0 (j 1) from
    (eq_ix2 j).trans (by rw [show j 0 = (0 : Fin 1) from Subsingleton.elim (α := Fin 1) _ _])]
  refine (pay2_apply _ (j 1)).trans ?_
  rw [pay6_apply]; rfl

/-! ## The arrays -/

variable (m : (ℓ : Loc nD τ sig) → Buf (Elt Ideal) ℓ) (c : Dev nD)

/-! Each input's block is its whole array. -/

theorem blk_0 (t : Fin cfg0.N) : iblk m c 0 t = V m c main_arg0 := by
  have hi : ∀ (t : Fin grid0.N) a, win0_0.index t a = 0 := by decide +kernel
  funext y; unfold iblk; rw [View.read_apply]
  show V m c main_arg0 _ = V m c main_arg0 y
  congr 1; funext a; apply Fin.ext; blk_simp
  rw [hi t a, Nat.zero_mul, Nat.zero_add]

theorem blk_1 (t : Fin cfg0.N) : iblk m c 1 t = V m c main_arg1 := by
  have hi : ∀ (t : Fin grid0.N) a, win0_1.index t a = 0 := by decide +kernel
  funext y; unfold iblk; rw [View.read_apply]
  show V m c main_arg1 _ = V m c main_arg1 y
  congr 1; funext a; apply Fin.ext; blk_simp
  rw [hi t a, Nat.zero_mul, Nat.zero_add]

theorem blk_2 (t : Fin cfg0.N) : iblk m c 2 t = V m c main_v0 := by
  have hi : ∀ (t : Fin grid0.N) a, win0_2.index t a = 0 := by decide +kernel
  funext y; unfold iblk; rw [View.read_apply]
  show V m c main_v0 _ = V m c main_v0 y
  congr 1; funext a; apply Fin.ext; blk_simp
  rw [hi t a, Nat.zero_mul, Nat.zero_add]

theorem blk_3 (t : Fin cfg0.N) : iblk m c 3 t = V m c main_arg3 := by
  have hi : ∀ (t : Fin grid0.N) a, win0_3.index t a = 0 := by decide +kernel
  funext y; unfold iblk; rw [View.read_apply]
  show V m c main_arg3 _ = V m c main_arg3 y
  congr 1; funext a; apply Fin.ext; blk_simp
  rw [hi t a, Nat.zero_mul, Nat.zero_add]

/-! Each output's one block is the whole result. -/

theorem arr_y : (dats (F := Ideal) m 0 c).arrAt 4 cfg0.N = resY (V m c main_arg0) (V m c main_arg1) (V m c main_v0) (V m c main_arg3) := by
  have hi : ∀ (t : Fin grid0.N) a, win0_4.index t a = 0 := by decide +kernel
  refine (dats (F := Ideal) m 0 c).arrAt_eq_of_covers 4 _ (by decide +kernel) fun t _ y => ?_
  blk_simp
  rw [after0_4, blk_0, blk_1, blk_2, blk_3, out4_eq]
  congr 1; funext a; apply Fin.ext; blk_simp
  rw [hi t a, Nat.zero_mul, Nat.zero_add]

theorem arr_c : (dats (F := Ideal) m 0 c).arrAt 5 cfg0.N = resC (V m c main_arg0) := by
  have hi : ∀ (t : Fin grid0.N) a, win0_5.index t a = 0 := by decide +kernel
  refine (dats (F := Ideal) m 0 c).arrAt_eq_of_covers 5 _ (by decide +kernel) fun t _ y => ?_
  blk_simp
  rw [after0_5, blk_0, blk_1, blk_2, blk_3, out5_eq]
  congr 1; funext a; apply Fin.ext; blk_simp
  rw [hi t a, Nat.zero_mul, Nat.zero_add]

theorem arr_s : (dats (F := Ideal) m 0 c).arrAt 6 cfg0.N = resS (V m c main_arg0) := by
  have hi : ∀ (t : Fin grid0.N) a, win0_6.index t a = 0 := by decide +kernel
  refine (dats (F := Ideal) m 0 c).arrAt_eq_of_covers 6 _ (by decide +kernel) fun t _ y => ?_
  blk_simp
  rw [after0_6, blk_0, blk_1, blk_2, blk_3, out6_eq]
  congr 1; funext a; apply Fin.ext; blk_simp
  rw [hi t a, Nat.zero_mul, Nat.zero_add]

/-- The weights' scales, as the call finds them: the argument as one row. -/
theorem V_scales : V m c main_v0 = shapeCast S1x5120 (m ((c : Thread nD τ).loc main_arg2)) shapeCasts_S5120_S1x5120 := by
  show (StableHlo.reshape main_arg2 main_v0 rfl shapeCasts_S5120_S1x5120 : HloOp τ sig (Elt Ideal)).result (fun b => m (c, b)) main_v0 = _
  rw [StableHlo.reshape_result]; rfl

/-- THE RUN: the three results, from the arguments, which end unchanged. -/
theorem run (ρ : Dev nD → PrngReg) : θ_run defs (onTc (τ := τ) (main (F := Ideal))) ⟨m, fun _ => 0, ρ⟩ (fun r => ∀ c : Dev nD,
      r.2.mem ((c.tc : Thread nD τ).loc main_v1_0) = resY (m ((c.tc : Thread nD τ).loc main_arg0)) (m ((c.tc : Thread nD τ).loc main_arg1))
          (shapeCast S1x5120 (m ((c.tc : Thread nD τ).loc main_arg2)) shapeCasts_S5120_S1x5120) (m ((c.tc : Thread nD τ).loc main_arg3))
      ∧ r.2.mem ((c.tc : Thread nD τ).loc main_v1_1) = resC (m ((c.tc : Thread nD τ).loc main_arg0))
      ∧ r.2.mem ((c.tc : Thread nD τ).loc main_v1_2) = resS (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  have hy := ((h.1 c).1 4).trans (arr_y m c)
  have hc := ((h.1 c).1 5).trans (arr_c m c)
  have hs := ((h.1 c).1 6).trans (arr_s m c)
  rw [V_main_arg0, V_main_arg1, V_main_arg3, V_scales] at hy
  rw [V_main_arg0] at hc hs
  exact ⟨hy, hc, hs, h.2 c⟩

end Cert.ReferenceIdeal.Hand

end
-- ==== Proof.lean ====
/-
  Hand-written. The claims of the statement, assembled: the frames of the three programs, and that the kernel and the reference over the
  extended reals leave the same three results, which both are shown to compute as the arrays `resY`, `resC` and `resS` of Spec.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.Arrays
public import proofs.«01_k».proof.Proof.RefArrays
public import Idealize.ShloMosaic.Adequacy
public import Idealize.ShloMosaic.Init

@[expose] public section

noncomputable section

namespace Cert.Proof

open Idealize.ShloMosaic Idealize.SL.Sem

/-- Both programs leave the arrays of Spec.lean at the kernel's arguments. -/
theorem algebraic : Cert.algebraic_KernelIdeal_ReferenceIdeal := fun m g m' g' _ hm => by
  refine ⟨_, _, _, Cert.KernelIdeal.Hand.run m g, ?_⟩
  refine (θ_run _ _ _).mono (fun r h c => ?_) (Cert.ReferenceIdeal.Hand.run m' g')
  have h := h c
  obtain ⟨h0, h1, h2, h3⟩ := hm c
  refine ⟨h.1.trans ?_, h.2.1.trans ?_, h.2.2.1.trans ?_, h.2.2.2⟩
  · rw [h0, h1, h2, h3]
  · rw [h0]
  · rw [h0]

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, fun m g _ => Cert.ReferenceIdeal.Gen.frame m g,
  trivial, algebraic⟩

end Cert.Proof

end
